-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_points_below_128 [hPre_zero_points_below_128 : Cert.Pre_zero_points_below_128.Facts] (m : (ℓ : Loc Cert.KernelIdeal.nD Cert.KernelIdeal.τ Cert.KernelIdeal.sig) → Buf (Elt Ideal) ℓ) : Prop :=
  ∀ c : Dev Cert.KernelIdeal.nD,
    (Cert.Pre_zero_points_below_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_points_below_128 [hPre_zero_points_below_128 : Cert.Pre_zero_points_below_128.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_points_below_128.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_zero_points_below_128 [hKernelIdeal : Cert.KernelIdeal.Facts] [hPre_zero_points_below_128 : Cert.Pre_zero_points_below_128.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_points_below_128 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_zero_points_below_128 [hReferenceIdeal : Cert.ReferenceIdeal.Facts] [hPre_zero_points_below_128 : Cert.Pre_zero_points_below_128.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_points_below_128 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x448x2x128 Cert.KernelIdeal.S2x448x1x128
  ∧ IdealRules.bf16_pair.Statement Cert.KernelIdeal.S448x128 Cert.KernelIdeal.S224x128
  ∧ IdealRules.bf16_pair.Statement Cert.KernelIdeal.S1x224x2x128 Cert.KernelIdeal.S1x224x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal_pre_zero_points_below_128 [hKernelIdeal : Cert.KernelIdeal.Facts] [hReferenceIdeal : Cert.ReferenceIdeal.Facts] [hPre_zero_points_below_128 : Cert.Pre_zero_points_below_128.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_points_below_128 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_zero_points_below_128 : Cert.Pre_zero_points_below_128.Facts),
    quiescent_Kernel (hKernel := hKernel)
    ∧ quiescent_KernelIdeal (hKernelIdeal := hKernelIdeal)
    ∧ quiescent_KernelIdeal_pre_zero_points_below_128 (hKernelIdeal := hKernelIdeal) (hPre_zero_points_below_128 := hPre_zero_points_below_128)
    ∧ quiescent_ReferenceIdeal (hReferenceIdeal := hReferenceIdeal)
    ∧ quiescent_ReferenceIdeal_pre_zero_points_below_128 (hReferenceIdeal := hReferenceIdeal) (hPre_zero_points_below_128 := hPre_zero_points_below_128)
    ∧ preserves_Kernel_KernelIdeal
    ∧ algebraic_KernelIdeal_ReferenceIdeal_pre_zero_points_below_128 (hKernelIdeal := hKernelIdeal) (hReferenceIdeal := hReferenceIdeal) (hPre_zero_points_below_128 := hPre_zero_points_below_128)
-- ==== Pre_zero_points_below_128.lean ====
abbrev S256x7168 : Shape := ⟨2, ![256, 7168]⟩
abbrev S3584x4608 : Shape := ⟨2, ![3584, 4608]⟩
abbrev S448x4608 : Shape := ⟨2, ![448, 4608]⟩
abbrev S36x3584x128 : Shape := ⟨3, ![36, 3584, 128]⟩
abbrev S_ : Shape := ⟨0, ![]⟩

class Facts : Prop where
  natLt_8_32 : 8 < 32
  bcast_S_S448x4608 : S_.BroadcastsInDim S448x4608 (![] : Fin 0 → Fin S448x4608.rank)

variable [Facts]

def fn {F : FTy → Type} [FloatOps F] (main_arg0 : FVec F S256x7168 .bf16) (main_arg1 : IVec S3584x4608 8) (main_arg2 : FVec F S448x4608 .bf16) (main_arg3 : IVec S448x4608 8) (main_arg4 : IVec S36x3584x128 32) : IVec S448x4608 1 :=
  let main_v0 : IVec S448x4608 32 := (extui 32 · natLt_8_32) main_arg3
  let main_c : IVec S_ 32 := constantI S_ 32 128#32
  let main_v1 : IVec S448x4608 32 := broadcastInDim S448x4608 ![] bcast_S_S448x4608 main_c
  let main_v2 : IVec S448x4608 1 := cmpi .slt main_v0 main_v1
  main_v2
-- ==== Kernel.lean ====
abbrev S256x7168 : Shape := ⟨2, ![256, 7168]⟩
abbrev S3584x4608 : Shape := ⟨2, ![3584, 4608]⟩
abbrev S448x4608 : Shape := ⟨2, ![448, 4608]⟩
abbrev S36x3584x128 : Shape := ⟨3, ![36, 3584, 128]⟩
abbrev S256x4608 : Shape := ⟨2, ![256, 4608]⟩
abbrev S3584x128 : Shape := ⟨2, ![3584, 128]⟩
abbrev S448x128 : Shape := ⟨2, ![448, 128]⟩
abbrev S2x3584x128 : Shape := ⟨3, ![2, 3584, 128]⟩
abbrev S256x256 : Shape := ⟨2, ![256, 256]⟩
abbrev S2x448x128 : Shape := ⟨3, ![2, 448, 128]⟩
abbrev S224x128 : Shape := ⟨2, ![224, 128]⟩
abbrev S1x224x128 : Shape := ⟨3, ![1, 224, 128]⟩
abbrev S32x128 : Shape := ⟨2, ![32, 128]⟩
abbrev S8x128 : Shape := ⟨2, ![8, 128]⟩
abbrev S8x1x128 : Shape := ⟨3, ![8, 1, 128]⟩
abbrev S8x8x128 : Shape := ⟨3, ![8, 8, 128]⟩
abbrev S64x128 : Shape := ⟨2, ![64, 128]⟩
abbrev S1x1x128 : Shape := ⟨3, ![1, 1, 128]⟩
abbrev S1x128 : Shape := ⟨2, ![1, 128]⟩
abbrev S2x128 : Shape := ⟨2, ![2, 128]⟩
abbrev S1x2x128 : Shape := ⟨3, ![1, 2, 128]⟩
abbrev S8x2x128 : Shape := ⟨3, ![8, 2, 128]⟩
abbrev S16x128 : Shape := ⟨2, ![16, 128]⟩
abbrev S1x8x128 : Shape := ⟨3, ![1, 8, 128]⟩
abbrev S1024x128 : Shape := ⟨2, ![1024, 128]⟩
abbrev S1024x256 : Shape := ⟨2, ![1024, 256]⟩
abbrev S256x1024 : Shape := ⟨2, ![256, 1024]⟩

abbrev nBuf : Space → Nat
  | .hbm => 6
  | .vmem => 20
  | .smem => 0
  | _ => 0

abbrev bufTy : (tb : Table) → Fin (tcTables nBuf tb) → BufTy
  | .hbm, ⟨0, _⟩ => ⟨S256x7168, .bf16⟩
  | .hbm, ⟨1, _⟩ => ⟨S3584x4608, .i8⟩
  | .hbm, ⟨2, _⟩ => ⟨S448x4608, .bf16⟩
  | .hbm, ⟨3, _⟩ => ⟨S448x4608, .i8⟩
  | .hbm, ⟨4, _⟩ => ⟨S36x3584x128, .i32⟩
  | .hbm, ⟨5, _⟩ => ⟨S256x4608, .bf16⟩
  | .local _ .vmem, ⟨0, _⟩ => ⟨S256x7168, .bf16⟩
  | .local _ .vmem, ⟨1, _⟩ => ⟨S3584x128, .i8⟩
  | .local _ .vmem, ⟨2, _⟩ => ⟨S3584x128, .i8⟩
  | .local _ .vmem, ⟨3, _⟩ => ⟨S3584x128, .i8⟩
  | .local _ .vmem, ⟨4, _⟩ => ⟨S3584x128, .i8⟩
  | .local _ .vmem, ⟨5, _⟩ => ⟨S448x128, .bf16⟩
  | .local _ .vmem, ⟨6, _⟩ => ⟨S448x128, .bf16⟩
  | .local _ .vmem, ⟨7, _⟩ => ⟨S448x128, .bf16⟩
  | .local _ .vmem, ⟨8, _⟩ => ⟨S448x128, .bf16⟩
  | .local _ .vmem, ⟨9, _⟩ => ⟨S448x128, .i8⟩
  | .local _ .vmem, ⟨10, _⟩ => ⟨S448x128, .i8⟩
  | .local _ .vmem, ⟨11, _⟩ => ⟨S448x128, .i8⟩
  | .local _ .vmem, ⟨12, _⟩ => ⟨S448x128, .i8⟩
  | .local _ .vmem, ⟨13, _⟩ => ⟨S2x3584x128, .i32⟩
  | .local _ .vmem, ⟨14, _⟩ => ⟨S2x3584x128, .i32⟩
  | .local _ .vmem, ⟨15, _⟩ => ⟨S256x256, .bf16⟩
  | .local _ .vmem, ⟨16, _⟩ => ⟨S256x256, .bf16⟩
  | .local _ .vmem, ⟨17, _⟩ => ⟨S256x256, .f32⟩
  | .local _ .vmem, ⟨18, _⟩ => ⟨S2x448x128, .i32⟩
  | .local _ .vmem, ⟨19, _⟩ => ⟨S2x448x128, .i32⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![18], ![false]⟩

@[reducible] def k0_t1_loop : Scf.Loop 32 :=
  let c0_i32 : BitVec 32 := 0#32
  let c7_i32 : BitVec 32 := 7#32
  let v82 : BitVec 32 := Scalar.addi c0_i32 c7_i32
  let c1_i32 : BitVec 32 := 1#32
  ⟨c0_i32, v82, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v88 : BitVec 32 := Scalar.muli arg13 c512_i32
  let c0_i32_53 : BitVec 32 := 0#32
  let v89 : BitVec 32 := Scalar.addi v88 c0_i32_53
  v89
def k0_off1 (k0_t1 : Fin k0_t1_loop.trips) (c0_i32_53 : BitVec 32) : Fin 2 → Nat :=
  let c0_i32 : BitVec 32 := 0#32
  let c1_i32 : BitVec 32 := 1#32
  let arg13 : BitVec 32 := Scf.iv c0_i32 c1_i32 k0_t1
  let c512_i32 : BitVec 32 := 512#32
  let v88 : BitVec 32 := Scalar.muli arg13 c512_i32
  let v89 : BitVec 32 := Scalar.addi v88 c0_i32_53
  let v90 : BitVec 32 := v89
  let v91 : Index := Scalar.indexCast v90
  let c0_54 : Index := 0#32
  ![v91.toNat, 0]
def k0_off2 (k0_t1 : Fin k0_t1_loop.trips) (c0_i32_52 : BitVec 32) (c0_i32_57 : BitVec 32) : Fin 3 → Nat :=
  let c0_58 : Index := 0#32
  let c0_i32 : BitVec 32 := 0#32
  let c1_i32 : BitVec 32 := 1#32
  let arg13 : BitVec 32 := Scf.iv c0_i32 c1_i32 k0_t1
  let c64_i32 : BitVec 32 := 64#32
  let v86 : BitVec 32 := Scalar.muli arg13 c64_i32
  let v87 : BitVec 32 := Scalar.addi v86 c0_i32_52
  let v111 : BitVec 32 := Scalar.addi v87 c0_i32_57
  let v112 : Index := Scalar.indexCast v111
  let c0_59 : Index := 0#32
  ![0, v112.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_63 : BitVec 32 := 512#32
  let v132 : BitVec 32 := Scalar.muli arg13 c512_i32_63
  let c0_i32_64 : BitVec 32 := 0#32
  let v133 : BitVec 32 := Scalar.addi v132 c0_i32_64
  v133
def k0_off3 (k0_t1 : Fin k0_t1_loop.trips) (c0_i32_64 : BitVec 32) : Fin 3 → Nat :=
  let c0_65 : Index := 0#32
  let c0_i32 : BitVec 32 := 0#32
  let c1_i32 : BitVec 32 := 1#32
  let arg13 : BitVec 32 := Scf.iv c0_i32 c1_i32 k0_t1
  let c512_i32_63 : BitVec 32 := 512#32
  let v132 : BitVec 32 := Scalar.muli arg13 c512_i32_63
  let v133 : BitVec 32 := Scalar.addi v132 c0_i32_64
  let v134 : BitVec 32 := v133
  let v135 : Index := Scalar.indexCast v134
  let c0_66 : Index := 0#32
  ![0, v135.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_73 : BitVec 32 := 512#32
  let v164 : BitVec 32 := Scalar.muli arg13 c512_i32_73
  let c8_i32 : BitVec 32 := 8#32
  let v165 : BitVec 32 := Scalar.addi v164 c8_i32
  v165
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_82 : BitVec 32 := 512#32
  let v196 : BitVec 32 := Scalar.muli arg13 c512_i32_82
  let c16_i32_83 : BitVec 32 := 16#32
  let v197 : BitVec 32 := Scalar.addi v196 c16_i32_83
  v197
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_92 : BitVec 32 := 512#32
  let v228 : BitVec 32 := Scalar.muli arg13 c512_i32_92
  let c24_i32 : BitVec 32 := 24#32
  let v229 : BitVec 32 := Scalar.addi v228 c24_i32
  v229
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_98 : BitVec 32 := 512#32
  let v241 : BitVec 32 := Scalar.muli arg13 c512_i32_98
  let c32_i32 : BitVec 32 := 32#32
  let v242 : BitVec 32 := Scalar.addi v241 c32_i32
  v242
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_111 : BitVec 32 := 512#32
  let v285 : BitVec 32 := Scalar.muli arg13 c512_i32_111
  let c32_i32_112 : BitVec 32 := 32#32
  let v286 : BitVec 32 := Scalar.addi v285 c32_i32_112
  v286
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_122 : BitVec 32 := 512#32
  let v317 : BitVec 32 := Scalar.muli arg13 c512_i32_122
  let c40_i32 : BitVec 32 := 40#32
  let v318 : BitVec 32 := Scalar.addi v317 c40_i32
  v318
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_132 : BitVec 32 := 512#32
  let v349 : BitVec 32 := Scalar.muli arg13 c512_i32_132
  let c48_i32 : BitVec 32 := 48#32
  let v350 : BitVec 32 := Scalar.addi v349 c48_i32
  v350
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_142 : BitVec 32 := 512#32
  let v381 : BitVec 32 := Scalar.muli arg13 c512_i32_142
  let c56_i32 : BitVec 32 := 56#32
  let v382 : BitVec 32 := Scalar.addi v381 c56_i32
  v382
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_148 : BitVec 32 := 512#32
  let v394 : BitVec 32 := Scalar.muli arg13 c512_i32_148
  let c64_i32_149 : BitVec 32 := 64#32
  let v395 : BitVec 32 := Scalar.addi v394 c64_i32_149
  v395
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_162 : BitVec 32 := 512#32
  let v438 : BitVec 32 := Scalar.muli arg13 c512_i32_162
  let c64_i32_163 : BitVec 32 := 64#32
  let v439 : BitVec 32 := Scalar.addi v438 c64_i32_163
  v439
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_173 : BitVec 32 := 512#32
  let v470 : BitVec 32 := Scalar.muli arg13 c512_i32_173
  let c72_i32 : BitVec 32 := 72#32
  let v471 : BitVec 32 := Scalar.addi v470 c72_i32
  v471
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_183 : BitVec 32 := 512#32
  let v502 : BitVec 32 := Scalar.muli arg13 c512_i32_183
  let c80_i32 : BitVec 32 := 80#32
  let v503 : BitVec 32 := Scalar.addi v502 c80_i32
  v503
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_193 : BitVec 32 := 512#32
  let v534 : BitVec 32 := Scalar.muli arg13 c512_i32_193
  let c88_i32 : BitVec 32 := 88#32
  let v535 : BitVec 32 := Scalar.addi v534 c88_i32
  v535
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_198 : BitVec 32 := 512#32
  let v547 : BitVec 32 := Scalar.muli arg13 c512_i32_198
  let c96_i32 : BitVec 32 := 96#32
  let v548 : BitVec 32 := Scalar.addi v547 c96_i32
  v548
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_211 : BitVec 32 := 512#32
  let v591 : BitVec 32 := Scalar.muli arg13 c512_i32_211
  let c96_i32_212 : BitVec 32 := 96#32
  let v592 : BitVec 32 := Scalar.addi v591 c96_i32_212
  v592
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_222 : BitVec 32 := 512#32
  let v623 : BitVec 32 := Scalar.muli arg13 c512_i32_222
  let c104_i32 : BitVec 32 := 104#32
  let v624 : BitVec 32 := Scalar.addi v623 c104_i32
  v624
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_232 : BitVec 32 := 512#32
  let v655 : BitVec 32 := Scalar.muli arg13 c512_i32_232
  let c112_i32 : BitVec 32 := 112#32
  let v656 : BitVec 32 := Scalar.addi v655 c112_i32
  v656
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_242 : BitVec 32 := 512#32
  let v687 : BitVec 32 := Scalar.muli arg13 c512_i32_242
  let c120_i32 : BitVec 32 := 120#32
  let v688 : BitVec 32 := Scalar.addi v687 c120_i32
  v688
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_248 : BitVec 32 := 512#32
  let v700 : BitVec 32 := Scalar.muli arg13 c512_i32_248
  let c128_i32 : BitVec 32 := 128#32
  let v701 : BitVec 32 := Scalar.addi v700 c128_i32
  v701
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_261 : BitVec 32 := 512#32
  let v744 : BitVec 32 := Scalar.muli arg13 c512_i32_261
  let c128_i32_262 : BitVec 32 := 128#32
  let v745 : BitVec 32 := Scalar.addi v744 c128_i32_262
  v745
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_272 : BitVec 32 := 512#32
  let v776 : BitVec 32 := Scalar.muli arg13 c512_i32_272
  let c136_i32 : BitVec 32 := 136#32
  let v777 : BitVec 32 := Scalar.addi v776 c136_i32
  v777
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_282 : BitVec 32 := 512#32
  let v808 : BitVec 32 := Scalar.muli arg13 c512_i32_282
  let c144_i32 : BitVec 32 := 144#32
  let v809 : BitVec 32 := Scalar.addi v808 c144_i32
  v809
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_292 : BitVec 32 := 512#32
  let v840 : BitVec 32 := Scalar.muli arg13 c512_i32_292
  let c152_i32 : BitVec 32 := 152#32
  let v841 : BitVec 32 := Scalar.addi v840 c152_i32
  v841
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_297 : BitVec 32 := 512#32
  let v853 : BitVec 32 := Scalar.muli arg13 c512_i32_297
  let c160_i32 : BitVec 32 := 160#32
  let v854 : BitVec 32 := Scalar.addi v853 c160_i32
  v854
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_310 : BitVec 32 := 512#32
  let v897 : BitVec 32 := Scalar.muli arg13 c512_i32_310
  let c160_i32_311 : BitVec 32 := 160#32
  let v898 : BitVec 32 := Scalar.addi v897 c160_i32_311
  v898
def k0_mult28 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_321 : BitVec 32 := 512#32
  let v929 : BitVec 32 := Scalar.muli arg13 c512_i32_321
  let c168_i32 : BitVec 32 := 168#32
  let v930 : BitVec 32 := Scalar.addi v929 c168_i32
  v930
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_331 : BitVec 32 := 512#32
  let v961 : BitVec 32 := Scalar.muli arg13 c512_i32_331
  let c176_i32 : BitVec 32 := 176#32
  let v962 : BitVec 32 := Scalar.addi v961 c176_i32
  v962
def k0_mult30 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_341 : BitVec 32 := 512#32
  let v993 : BitVec 32 := Scalar.muli arg13 c512_i32_341
  let c184_i32 : BitVec 32 := 184#32
  let v994 : BitVec 32 := Scalar.addi v993 c184_i32
  v994
def k0_mult31 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_347 : BitVec 32 := 512#32
  let v1006 : BitVec 32 := Scalar.muli arg13 c512_i32_347
  let c192_i32 : BitVec 32 := 192#32
  let v1007 : BitVec 32 := Scalar.addi v1006 c192_i32
  v1007
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_360 : BitVec 32 := 512#32
  let v1050 : BitVec 32 := Scalar.muli arg13 c512_i32_360
  let c192_i32_361 : BitVec 32 := 192#32
  let v1051 : BitVec 32 := Scalar.addi v1050 c192_i32_361
  v1051
def k0_mult33 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_371 : BitVec 32 := 512#32
  let v1082 : BitVec 32 := Scalar.muli arg13 c512_i32_371
  let c200_i32 : BitVec 32 := 200#32
  let v1083 : BitVec 32 := Scalar.addi v1082 c200_i32
  v1083
def k0_mult34 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_381 : BitVec 32 := 512#32
  let v1114 : BitVec 32 := Scalar.muli arg13 c512_i32_381
  let c208_i32 : BitVec 32 := 208#32
  let v1115 : BitVec 32 := Scalar.addi v1114 c208_i32
  v1115
def k0_mult35 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_391 : BitVec 32 := 512#32
  let v1146 : BitVec 32 := Scalar.muli arg13 c512_i32_391
  let c216_i32 : BitVec 32 := 216#32
  let v1147 : BitVec 32 := Scalar.addi v1146 c216_i32
  v1147
def k0_mult36 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_397 : BitVec 32 := 512#32
  let v1159 : BitVec 32 := Scalar.muli arg13 c512_i32_397
  let c224_i32 : BitVec 32 := 224#32
  let v1160 : BitVec 32 := Scalar.addi v1159 c224_i32
  v1160
def k0_mult37 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_410 : BitVec 32 := 512#32
  let v1203 : BitVec 32 := Scalar.muli arg13 c512_i32_410
  let c224_i32_411 : BitVec 32 := 224#32
  let v1204 : BitVec 32 := Scalar.addi v1203 c224_i32_411
  v1204
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_421 : BitVec 32 := 512#32
  let v1235 : BitVec 32 := Scalar.muli arg13 c512_i32_421
  let c232_i32 : BitVec 32 := 232#32
  let v1236 : BitVec 32 := Scalar.addi v1235 c232_i32
  v1236
def k0_mult39 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_431 : BitVec 32 := 512#32
  let v1267 : BitVec 32 := Scalar.muli arg13 c512_i32_431
  let c240_i32 : BitVec 32 := 240#32
  let v1268 : BitVec 32 := Scalar.addi v1267 c240_i32
  v1268
def k0_mult40 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_441 : BitVec 32 := 512#32
  let v1299 : BitVec 32 := Scalar.muli arg13 c512_i32_441
  let c248_i32 : BitVec 32 := 248#32
  let v1300 : BitVec 32 := Scalar.addi v1299 c248_i32
  v1300
def k0_mult41 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_447 : BitVec 32 := 512#32
  let v1312 : BitVec 32 := Scalar.muli arg13 c512_i32_447
  let c256_i32 : BitVec 32 := 256#32
  let v1313 : BitVec 32 := Scalar.addi v1312 c256_i32
  v1313
def k0_mult42 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_460 : BitVec 32 := 512#32
  let v1356 : BitVec 32 := Scalar.muli arg13 c512_i32_460
  let c256_i32_461 : BitVec 32 := 256#32
  let v1357 : BitVec 32 := Scalar.addi v1356 c256_i32_461
  v1357
def k0_mult43 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_471 : BitVec 32 := 512#32
  let v1388 : BitVec 32 := Scalar.muli arg13 c512_i32_471
  let c264_i32 : BitVec 32 := 264#32
  let v1389 : BitVec 32 := Scalar.addi v1388 c264_i32
  v1389
def k0_mult44 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_481 : BitVec 32 := 512#32
  let v1420 : BitVec 32 := Scalar.muli arg13 c512_i32_481
  let c272_i32 : BitVec 32 := 272#32
  let v1421 : BitVec 32 := Scalar.addi v1420 c272_i32
  v1421
def k0_mult45 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_491 : BitVec 32 := 512#32
  let v1452 : BitVec 32 := Scalar.muli arg13 c512_i32_491
  let c280_i32 : BitVec 32 := 280#32
  let v1453 : BitVec 32 := Scalar.addi v1452 c280_i32
  v1453
def k0_mult46 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_496 : BitVec 32 := 512#32
  let v1465 : BitVec 32 := Scalar.muli arg13 c512_i32_496
  let c288_i32 : BitVec 32 := 288#32
  let v1466 : BitVec 32 := Scalar.addi v1465 c288_i32
  v1466
def k0_mult47 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_509 : BitVec 32 := 512#32
  let v1509 : BitVec 32 := Scalar.muli arg13 c512_i32_509
  let c288_i32_510 : BitVec 32 := 288#32
  let v1510 : BitVec 32 := Scalar.addi v1509 c288_i32_510
  v1510
def k0_mult48 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_520 : BitVec 32 := 512#32
  let v1541 : BitVec 32 := Scalar.muli arg13 c512_i32_520
  let c296_i32 : BitVec 32 := 296#32
  let v1542 : BitVec 32 := Scalar.addi v1541 c296_i32
  v1542
def k0_mult49 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_530 : BitVec 32 := 512#32
  let v1573 : BitVec 32 := Scalar.muli arg13 c512_i32_530
  let c304_i32 : BitVec 32 := 304#32
  let v1574 : BitVec 32 := Scalar.addi v1573 c304_i32
  v1574
def k0_mult50 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_540 : BitVec 32 := 512#32
  let v1605 : BitVec 32 := Scalar.muli arg13 c512_i32_540
  let c312_i32 : BitVec 32 := 312#32
  let v1606 : BitVec 32 := Scalar.addi v1605 c312_i32
  v1606
def k0_mult51 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_546 : BitVec 32 := 512#32
  let v1618 : BitVec 32 := Scalar.muli arg13 c512_i32_546
  let c320_i32 : BitVec 32 := 320#32
  let v1619 : BitVec 32 := Scalar.addi v1618 c320_i32
  v1619
def k0_mult52 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_559 : BitVec 32 := 512#32
  let v1662 : BitVec 32 := Scalar.muli arg13 c512_i32_559
  let c320_i32_560 : BitVec 32 := 320#32
  let v1663 : BitVec 32 := Scalar.addi v1662 c320_i32_560
  v1663
def k0_mult53 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_570 : BitVec 32 := 512#32
  let v1694 : BitVec 32 := Scalar.muli arg13 c512_i32_570
  let c328_i32 : BitVec 32 := 328#32
  let v1695 : BitVec 32 := Scalar.addi v1694 c328_i32
  v1695
def k0_mult54 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_580 : BitVec 32 := 512#32
  let v1726 : BitVec 32 := Scalar.muli arg13 c512_i32_580
  let c336_i32 : BitVec 32 := 336#32
  let v1727 : BitVec 32 := Scalar.addi v1726 c336_i32
  v1727
def k0_mult55 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_590 : BitVec 32 := 512#32
  let v1758 : BitVec 32 := Scalar.muli arg13 c512_i32_590
  let c344_i32 : BitVec 32 := 344#32
  let v1759 : BitVec 32 := Scalar.addi v1758 c344_i32
  v1759
def k0_mult56 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_595 : BitVec 32 := 512#32
  let v1771 : BitVec 32 := Scalar.muli arg13 c512_i32_595
  let c352_i32 : BitVec 32 := 352#32
  let v1772 : BitVec 32 := Scalar.addi v1771 c352_i32
  v1772
def k0_mult57 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_608 : BitVec 32 := 512#32
  let v1815 : BitVec 32 := Scalar.muli arg13 c512_i32_608
  let c352_i32_609 : BitVec 32 := 352#32
  let v1816 : BitVec 32 := Scalar.addi v1815 c352_i32_609
  v1816
def k0_mult58 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_619 : BitVec 32 := 512#32
  let v1847 : BitVec 32 := Scalar.muli arg13 c512_i32_619
  let c360_i32 : BitVec 32 := 360#32
  let v1848 : BitVec 32 := Scalar.addi v1847 c360_i32
  v1848
def k0_mult59 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_629 : BitVec 32 := 512#32
  let v1879 : BitVec 32 := Scalar.muli arg13 c512_i32_629
  let c368_i32 : BitVec 32 := 368#32
  let v1880 : BitVec 32 := Scalar.addi v1879 c368_i32
  v1880
def k0_mult60 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_639 : BitVec 32 := 512#32
  let v1911 : BitVec 32 := Scalar.muli arg13 c512_i32_639
  let c376_i32 : BitVec 32 := 376#32
  let v1912 : BitVec 32 := Scalar.addi v1911 c376_i32
  v1912
def k0_mult61 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_645 : BitVec 32 := 512#32
  let v1924 : BitVec 32 := Scalar.muli arg13 c512_i32_645
  let c384_i32 : BitVec 32 := 384#32
  let v1925 : BitVec 32 := Scalar.addi v1924 c384_i32
  v1925
def k0_mult62 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_658 : BitVec 32 := 512#32
  let v1968 : BitVec 32 := Scalar.muli arg13 c512_i32_658
  let c384_i32_659 : BitVec 32 := 384#32
  let v1969 : BitVec 32 := Scalar.addi v1968 c384_i32_659
  v1969
def k0_mult63 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_669 : BitVec 32 := 512#32
  let v2000 : BitVec 32 := Scalar.muli arg13 c512_i32_669
  let c392_i32 : BitVec 32 := 392#32
  let v2001 : BitVec 32 := Scalar.addi v2000 c392_i32
  v2001
def k0_mult64 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_679 : BitVec 32 := 512#32
  let v2032 : BitVec 32 := Scalar.muli arg13 c512_i32_679
  let c400_i32 : BitVec 32 := 400#32
  let v2033 : BitVec 32 := Scalar.addi v2032 c400_i32
  v2033
def k0_mult65 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_689 : BitVec 32 := 512#32
  let v2064 : BitVec 32 := Scalar.muli arg13 c512_i32_689
  let c408_i32 : BitVec 32 := 408#32
  let v2065 : BitVec 32 := Scalar.addi v2064 c408_i32
  v2065
def k0_mult66 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_694 : BitVec 32 := 512#32
  let v2077 : BitVec 32 := Scalar.muli arg13 c512_i32_694
  let c416_i32 : BitVec 32 := 416#32
  let v2078 : BitVec 32 := Scalar.addi v2077 c416_i32
  v2078
def k0_mult67 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_707 : BitVec 32 := 512#32
  let v2121 : BitVec 32 := Scalar.muli arg13 c512_i32_707
  let c416_i32_708 : BitVec 32 := 416#32
  let v2122 : BitVec 32 := Scalar.addi v2121 c416_i32_708
  v2122
def k0_mult68 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_718 : BitVec 32 := 512#32
  let v2153 : BitVec 32 := Scalar.muli arg13 c512_i32_718
  let c424_i32 : BitVec 32 := 424#32
  let v2154 : BitVec 32 := Scalar.addi v2153 c424_i32
  v2154
def k0_mult69 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_728 : BitVec 32 := 512#32
  let v2185 : BitVec 32 := Scalar.muli arg13 c512_i32_728
  let c432_i32 : BitVec 32 := 432#32
  let v2186 : BitVec 32 := Scalar.addi v2185 c432_i32
  v2186
def k0_mult70 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_738 : BitVec 32 := 512#32
  let v2217 : BitVec 32 := Scalar.muli arg13 c512_i32_738
  let c440_i32 : BitVec 32 := 440#32
  let v2218 : BitVec 32 := Scalar.addi v2217 c440_i32
  v2218
def k0_mult71 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_744 : BitVec 32 := 512#32
  let v2230 : BitVec 32 := Scalar.muli arg13 c512_i32_744
  let c448_i32 : BitVec 32 := 448#32
  let v2231 : BitVec 32 := Scalar.addi v2230 c448_i32
  v2231
def k0_mult72 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_757 : BitVec 32 := 512#32
  let v2274 : BitVec 32 := Scalar.muli arg13 c512_i32_757
  let c448_i32_758 : BitVec 32 := 448#32
  let v2275 : BitVec 32 := Scalar.addi v2274 c448_i32_758
  v2275
def k0_mult73 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_768 : BitVec 32 := 512#32
  let v2306 : BitVec 32 := Scalar.muli arg13 c512_i32_768
  let c456_i32 : BitVec 32 := 456#32
  let v2307 : BitVec 32 := Scalar.addi v2306 c456_i32
  v2307
def k0_mult74 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_778 : BitVec 32 := 512#32
  let v2338 : BitVec 32 := Scalar.muli arg13 c512_i32_778
  let c464_i32 : BitVec 32 := 464#32
  let v2339 : BitVec 32 := Scalar.addi v2338 c464_i32
  v2339
def k0_mult75 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_788 : BitVec 32 := 512#32
  let v2370 : BitVec 32 := Scalar.muli arg13 c512_i32_788
  let c472_i32 : BitVec 32 := 472#32
  let v2371 : BitVec 32 := Scalar.addi v2370 c472_i32
  v2371
def k0_mult76 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_793 : BitVec 32 := 512#32
  let v2383 : BitVec 32 := Scalar.muli arg13 c512_i32_793
  let c480_i32 : BitVec 32 := 480#32
  let v2384 : BitVec 32 := Scalar.addi v2383 c480_i32
  v2384
def k0_mult77 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_806 : BitVec 32 := 512#32
  let v2427 : BitVec 32 := Scalar.muli arg13 c512_i32_806
  let c480_i32_807 : BitVec 32 := 480#32
  let v2428 : BitVec 32 := Scalar.addi v2427 c480_i32_807
  v2428
def k0_mult78 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_817 : BitVec 32 := 512#32
  let v2459 : BitVec 32 := Scalar.muli arg13 c512_i32_817
  let c488_i32 : BitVec 32 := 488#32
  let v2460 : BitVec 32 := Scalar.addi v2459 c488_i32
  v2460
def k0_mult79 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_827 : BitVec 32 := 512#32
  let v2491 : BitVec 32 := Scalar.muli arg13 c512_i32_827
  let c496_i32 : BitVec 32 := 496#32
  let v2492 : BitVec 32 := Scalar.addi v2491 c496_i32
  v2492
def k0_mult80 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_837 : BitVec 32 := 512#32
  let v2523 : BitVec 32 := Scalar.muli arg13 c512_i32_837
  let c504_i32 : BitVec 32 := 504#32
  let v2524 : BitVec 32 := Scalar.addi v2523 c504_i32
  v2524
def k0_mult81 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_843 : BitVec 32 := 512#32
  let v2537 : BitVec 32 := Scalar.muli arg13 c512_i32_843
  let c0_i32_844 : BitVec 32 := 0#32
  let v2538 : BitVec 32 := Scalar.addi v2537 c0_i32_844
  v2538
def k0_off4 (k0_t1 : Fin k0_t1_loop.trips) (c0_i32_842 : BitVec 32) (c0_i32_851 : BitVec 32) : Fin 3 → Nat :=
  let c1_852 : Index := 1#32
  let c0_i32 : BitVec 32 := 0#32
  let c1_i32 : BitVec 32 := 1#32
  let arg13 : BitVec 32 := Scf.iv c0_i32 c1_i32 k0_t1
  let c64_i32_841 : BitVec 32 := 64#32
  let v2535 : BitVec 32 := Scalar.muli arg13 c64_i32_841
  let v2536 : BitVec 32 := Scalar.addi v2535 c0_i32_842
  let v2560 : BitVec 32 := Scalar.addi v2536 c0_i32_851
  let v2561 : Index := Scalar.indexCast v2560
  let c0_853 : Index := 0#32
  ![1, v2561.toNat, 0]
def k0_mult82 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_857 : BitVec 32 := 512#32
  let v2581 : BitVec 32 := Scalar.muli arg13 c512_i32_857
  let c0_i32_858 : BitVec 32 := 0#32
  let v2582 : BitVec 32 := Scalar.addi v2581 c0_i32_858
  v2582
def k0_off5 (k0_t1 : Fin k0_t1_loop.trips) (c0_i32_858 : BitVec 32) : Fin 3 → Nat :=
  let c1_859 : Index := 1#32
  let c0_i32 : BitVec 32 := 0#32
  let c1_i32 : BitVec 32 := 1#32
  let arg13 : BitVec 32 := Scf.iv c0_i32 c1_i32 k0_t1
  let c512_i32_857 : BitVec 32 := 512#32
  let v2581 : BitVec 32 := Scalar.muli arg13 c512_i32_857
  let v2582 : BitVec 32 := Scalar.addi v2581 c0_i32_858
  let v2583 : BitVec 32 := v2582
  let v2584 : Index := Scalar.indexCast v2583
  let c0_860 : Index := 0#32
  ![1, v2584.toNat, 0]
def k0_mult83 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_868 : BitVec 32 := 512#32
  let v2613 : BitVec 32 := Scalar.muli arg13 c512_i32_868
  let c8_i32_869 : BitVec 32 := 8#32
  let v2614 : BitVec 32 := Scalar.addi v2613 c8_i32_869
  v2614
def k0_mult84 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_879 : BitVec 32 := 512#32
  let v2645 : BitVec 32 := Scalar.muli arg13 c512_i32_879
  let c16_i32_880 : BitVec 32 := 16#32
  let v2646 : BitVec 32 := Scalar.addi v2645 c16_i32_880
  v2646
def k0_mult85 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_890 : BitVec 32 := 512#32
  let v2677 : BitVec 32 := Scalar.muli arg13 c512_i32_890
  let c24_i32_891 : BitVec 32 := 24#32
  let v2678 : BitVec 32 := Scalar.addi v2677 c24_i32_891
  v2678
def k0_mult86 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_897 : BitVec 32 := 512#32
  let v2690 : BitVec 32 := Scalar.muli arg13 c512_i32_897
  let c32_i32_898 : BitVec 32 := 32#32
  let v2691 : BitVec 32 := Scalar.addi v2690 c32_i32_898
  v2691
def k0_mult87 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_911 : BitVec 32 := 512#32
  let v2734 : BitVec 32 := Scalar.muli arg13 c512_i32_911
  let c32_i32_912 : BitVec 32 := 32#32
  let v2735 : BitVec 32 := Scalar.addi v2734 c32_i32_912
  v2735
def k0_mult88 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_922 : BitVec 32 := 512#32
  let v2766 : BitVec 32 := Scalar.muli arg13 c512_i32_922
  let c40_i32_923 : BitVec 32 := 40#32
  let v2767 : BitVec 32 := Scalar.addi v2766 c40_i32_923
  v2767
def k0_mult89 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_933 : BitVec 32 := 512#32
  let v2798 : BitVec 32 := Scalar.muli arg13 c512_i32_933
  let c48_i32_934 : BitVec 32 := 48#32
  let v2799 : BitVec 32 := Scalar.addi v2798 c48_i32_934
  v2799
def k0_mult90 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_944 : BitVec 32 := 512#32
  let v2830 : BitVec 32 := Scalar.muli arg13 c512_i32_944
  let c56_i32_945 : BitVec 32 := 56#32
  let v2831 : BitVec 32 := Scalar.addi v2830 c56_i32_945
  v2831
def k0_mult91 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_951 : BitVec 32 := 512#32
  let v2843 : BitVec 32 := Scalar.muli arg13 c512_i32_951
  let c64_i32_952 : BitVec 32 := 64#32
  let v2844 : BitVec 32 := Scalar.addi v2843 c64_i32_952
  v2844
def k0_mult92 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_965 : BitVec 32 := 512#32
  let v2887 : BitVec 32 := Scalar.muli arg13 c512_i32_965
  let c64_i32_966 : BitVec 32 := 64#32
  let v2888 : BitVec 32 := Scalar.addi v2887 c64_i32_966
  v2888
def k0_mult93 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_976 : BitVec 32 := 512#32
  let v2919 : BitVec 32 := Scalar.muli arg13 c512_i32_976
  let c72_i32_977 : BitVec 32 := 72#32
  let v2920 : BitVec 32 := Scalar.addi v2919 c72_i32_977
  v2920
def k0_mult94 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_987 : BitVec 32 := 512#32
  let v2951 : BitVec 32 := Scalar.muli arg13 c512_i32_987
  let c80_i32_988 : BitVec 32 := 80#32
  let v2952 : BitVec 32 := Scalar.addi v2951 c80_i32_988
  v2952
def k0_mult95 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_998 : BitVec 32 := 512#32
  let v2983 : BitVec 32 := Scalar.muli arg13 c512_i32_998
  let c88_i32_999 : BitVec 32 := 88#32
  let v2984 : BitVec 32 := Scalar.addi v2983 c88_i32_999
  v2984
def k0_mult96 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1005 : BitVec 32 := 512#32
  let v2996 : BitVec 32 := Scalar.muli arg13 c512_i32_1005
  let c96_i32_1006 : BitVec 32 := 96#32
  let v2997 : BitVec 32 := Scalar.addi v2996 c96_i32_1006
  v2997
def k0_mult97 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1019 : BitVec 32 := 512#32
  let v3040 : BitVec 32 := Scalar.muli arg13 c512_i32_1019
  let c96_i32_1020 : BitVec 32 := 96#32
  let v3041 : BitVec 32 := Scalar.addi v3040 c96_i32_1020
  v3041
def k0_mult98 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1030 : BitVec 32 := 512#32
  let v3072 : BitVec 32 := Scalar.muli arg13 c512_i32_1030
  let c104_i32_1031 : BitVec 32 := 104#32
  let v3073 : BitVec 32 := Scalar.addi v3072 c104_i32_1031
  v3073
def k0_mult99 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1041 : BitVec 32 := 512#32
  let v3104 : BitVec 32 := Scalar.muli arg13 c512_i32_1041
  let c112_i32_1042 : BitVec 32 := 112#32
  let v3105 : BitVec 32 := Scalar.addi v3104 c112_i32_1042
  v3105
def k0_mult100 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1052 : BitVec 32 := 512#32
  let v3136 : BitVec 32 := Scalar.muli arg13 c512_i32_1052
  let c120_i32_1053 : BitVec 32 := 120#32
  let v3137 : BitVec 32 := Scalar.addi v3136 c120_i32_1053
  v3137
def k0_mult101 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1059 : BitVec 32 := 512#32
  let v3149 : BitVec 32 := Scalar.muli arg13 c512_i32_1059
  let c128_i32_1060 : BitVec 32 := 128#32
  let v3150 : BitVec 32 := Scalar.addi v3149 c128_i32_1060
  v3150
def k0_mult102 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1073 : BitVec 32 := 512#32
  let v3193 : BitVec 32 := Scalar.muli arg13 c512_i32_1073
  let c128_i32_1074 : BitVec 32 := 128#32
  let v3194 : BitVec 32 := Scalar.addi v3193 c128_i32_1074
  v3194
def k0_mult103 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1084 : BitVec 32 := 512#32
  let v3225 : BitVec 32 := Scalar.muli arg13 c512_i32_1084
  let c136_i32_1085 : BitVec 32 := 136#32
  let v3226 : BitVec 32 := Scalar.addi v3225 c136_i32_1085
  v3226
def k0_mult104 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1095 : BitVec 32 := 512#32
  let v3257 : BitVec 32 := Scalar.muli arg13 c512_i32_1095
  let c144_i32_1096 : BitVec 32 := 144#32
  let v3258 : BitVec 32 := Scalar.addi v3257 c144_i32_1096
  v3258
def k0_mult105 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1106 : BitVec 32 := 512#32
  let v3289 : BitVec 32 := Scalar.muli arg13 c512_i32_1106
  let c152_i32_1107 : BitVec 32 := 152#32
  let v3290 : BitVec 32 := Scalar.addi v3289 c152_i32_1107
  v3290
def k0_mult106 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1113 : BitVec 32 := 512#32
  let v3302 : BitVec 32 := Scalar.muli arg13 c512_i32_1113
  let c160_i32_1114 : BitVec 32 := 160#32
  let v3303 : BitVec 32 := Scalar.addi v3302 c160_i32_1114
  v3303
def k0_mult107 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1127 : BitVec 32 := 512#32
  let v3346 : BitVec 32 := Scalar.muli arg13 c512_i32_1127
  let c160_i32_1128 : BitVec 32 := 160#32
  let v3347 : BitVec 32 := Scalar.addi v3346 c160_i32_1128
  v3347
def k0_mult108 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1138 : BitVec 32 := 512#32
  let v3378 : BitVec 32 := Scalar.muli arg13 c512_i32_1138
  let c168_i32_1139 : BitVec 32 := 168#32
  let v3379 : BitVec 32 := Scalar.addi v3378 c168_i32_1139
  v3379
def k0_mult109 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1149 : BitVec 32 := 512#32
  let v3410 : BitVec 32 := Scalar.muli arg13 c512_i32_1149
  let c176_i32_1150 : BitVec 32 := 176#32
  let v3411 : BitVec 32 := Scalar.addi v3410 c176_i32_1150
  v3411
def k0_mult110 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1160 : BitVec 32 := 512#32
  let v3442 : BitVec 32 := Scalar.muli arg13 c512_i32_1160
  let c184_i32_1161 : BitVec 32 := 184#32
  let v3443 : BitVec 32 := Scalar.addi v3442 c184_i32_1161
  v3443
def k0_mult111 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1167 : BitVec 32 := 512#32
  let v3455 : BitVec 32 := Scalar.muli arg13 c512_i32_1167
  let c192_i32_1168 : BitVec 32 := 192#32
  let v3456 : BitVec 32 := Scalar.addi v3455 c192_i32_1168
  v3456
def k0_mult112 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1181 : BitVec 32 := 512#32
  let v3499 : BitVec 32 := Scalar.muli arg13 c512_i32_1181
  let c192_i32_1182 : BitVec 32 := 192#32
  let v3500 : BitVec 32 := Scalar.addi v3499 c192_i32_1182
  v3500
def k0_mult113 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1192 : BitVec 32 := 512#32
  let v3531 : BitVec 32 := Scalar.muli arg13 c512_i32_1192
  let c200_i32_1193 : BitVec 32 := 200#32
  let v3532 : BitVec 32 := Scalar.addi v3531 c200_i32_1193
  v3532
def k0_mult114 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1203 : BitVec 32 := 512#32
  let v3563 : BitVec 32 := Scalar.muli arg13 c512_i32_1203
  let c208_i32_1204 : BitVec 32 := 208#32
  let v3564 : BitVec 32 := Scalar.addi v3563 c208_i32_1204
  v3564
def k0_mult115 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1214 : BitVec 32 := 512#32
  let v3595 : BitVec 32 := Scalar.muli arg13 c512_i32_1214
  let c216_i32_1215 : BitVec 32 := 216#32
  let v3596 : BitVec 32 := Scalar.addi v3595 c216_i32_1215
  v3596
def k0_mult116 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1221 : BitVec 32 := 512#32
  let v3608 : BitVec 32 := Scalar.muli arg13 c512_i32_1221
  let c224_i32_1222 : BitVec 32 := 224#32
  let v3609 : BitVec 32 := Scalar.addi v3608 c224_i32_1222
  v3609
def k0_mult117 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1235 : BitVec 32 := 512#32
  let v3652 : BitVec 32 := Scalar.muli arg13 c512_i32_1235
  let c224_i32_1236 : BitVec 32 := 224#32
  let v3653 : BitVec 32 := Scalar.addi v3652 c224_i32_1236
  v3653
def k0_mult118 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1246 : BitVec 32 := 512#32
  let v3684 : BitVec 32 := Scalar.muli arg13 c512_i32_1246
  let c232_i32_1247 : BitVec 32 := 232#32
  let v3685 : BitVec 32 := Scalar.addi v3684 c232_i32_1247
  v3685
def k0_mult119 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1257 : BitVec 32 := 512#32
  let v3716 : BitVec 32 := Scalar.muli arg13 c512_i32_1257
  let c240_i32_1258 : BitVec 32 := 240#32
  let v3717 : BitVec 32 := Scalar.addi v3716 c240_i32_1258
  v3717
def k0_mult120 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1268 : BitVec 32 := 512#32
  let v3748 : BitVec 32 := Scalar.muli arg13 c512_i32_1268
  let c248_i32_1269 : BitVec 32 := 248#32
  let v3749 : BitVec 32 := Scalar.addi v3748 c248_i32_1269
  v3749
def k0_mult121 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1275 : BitVec 32 := 512#32
  let v3761 : BitVec 32 := Scalar.muli arg13 c512_i32_1275
  let c256_i32_1276 : BitVec 32 := 256#32
  let v3762 : BitVec 32 := Scalar.addi v3761 c256_i32_1276
  v3762
def k0_mult122 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1289 : BitVec 32 := 512#32
  let v3805 : BitVec 32 := Scalar.muli arg13 c512_i32_1289
  let c256_i32_1290 : BitVec 32 := 256#32
  let v3806 : BitVec 32 := Scalar.addi v3805 c256_i32_1290
  v3806
def k0_mult123 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1300 : BitVec 32 := 512#32
  let v3837 : BitVec 32 := Scalar.muli arg13 c512_i32_1300
  let c264_i32_1301 : BitVec 32 := 264#32
  let v3838 : BitVec 32 := Scalar.addi v3837 c264_i32_1301
  v3838
def k0_mult124 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1311 : BitVec 32 := 512#32
  let v3869 : BitVec 32 := Scalar.muli arg13 c512_i32_1311
  let c272_i32_1312 : BitVec 32 := 272#32
  let v3870 : BitVec 32 := Scalar.addi v3869 c272_i32_1312
  v3870
def k0_mult125 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1322 : BitVec 32 := 512#32
  let v3901 : BitVec 32 := Scalar.muli arg13 c512_i32_1322
  let c280_i32_1323 : BitVec 32 := 280#32
  let v3902 : BitVec 32 := Scalar.addi v3901 c280_i32_1323
  v3902
def k0_mult126 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1329 : BitVec 32 := 512#32
  let v3914 : BitVec 32 := Scalar.muli arg13 c512_i32_1329
  let c288_i32_1330 : BitVec 32 := 288#32
  let v3915 : BitVec 32 := Scalar.addi v3914 c288_i32_1330
  v3915
def k0_mult127 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1343 : BitVec 32 := 512#32
  let v3958 : BitVec 32 := Scalar.muli arg13 c512_i32_1343
  let c288_i32_1344 : BitVec 32 := 288#32
  let v3959 : BitVec 32 := Scalar.addi v3958 c288_i32_1344
  v3959
def k0_mult128 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1354 : BitVec 32 := 512#32
  let v3990 : BitVec 32 := Scalar.muli arg13 c512_i32_1354
  let c296_i32_1355 : BitVec 32 := 296#32
  let v3991 : BitVec 32 := Scalar.addi v3990 c296_i32_1355
  v3991
def k0_mult129 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1365 : BitVec 32 := 512#32
  let v4022 : BitVec 32 := Scalar.muli arg13 c512_i32_1365
  let c304_i32_1366 : BitVec 32 := 304#32
  let v4023 : BitVec 32 := Scalar.addi v4022 c304_i32_1366
  v4023
def k0_mult130 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1376 : BitVec 32 := 512#32
  let v4054 : BitVec 32 := Scalar.muli arg13 c512_i32_1376
  let c312_i32_1377 : BitVec 32 := 312#32
  let v4055 : BitVec 32 := Scalar.addi v4054 c312_i32_1377
  v4055
def k0_mult131 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1383 : BitVec 32 := 512#32
  let v4067 : BitVec 32 := Scalar.muli arg13 c512_i32_1383
  let c320_i32_1384 : BitVec 32 := 320#32
  let v4068 : BitVec 32 := Scalar.addi v4067 c320_i32_1384
  v4068
def k0_mult132 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1397 : BitVec 32 := 512#32
  let v4111 : BitVec 32 := Scalar.muli arg13 c512_i32_1397
  let c320_i32_1398 : BitVec 32 := 320#32
  let v4112 : BitVec 32 := Scalar.addi v4111 c320_i32_1398
  v4112
def k0_mult133 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1408 : BitVec 32 := 512#32
  let v4143 : BitVec 32 := Scalar.muli arg13 c512_i32_1408
  let c328_i32_1409 : BitVec 32 := 328#32
  let v4144 : BitVec 32 := Scalar.addi v4143 c328_i32_1409
  v4144
def k0_mult134 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1419 : BitVec 32 := 512#32
  let v4175 : BitVec 32 := Scalar.muli arg13 c512_i32_1419
  let c336_i32_1420 : BitVec 32 := 336#32
  let v4176 : BitVec 32 := Scalar.addi v4175 c336_i32_1420
  v4176
def k0_mult135 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1430 : BitVec 32 := 512#32
  let v4207 : BitVec 32 := Scalar.muli arg13 c512_i32_1430
  let c344_i32_1431 : BitVec 32 := 344#32
  let v4208 : BitVec 32 := Scalar.addi v4207 c344_i32_1431
  v4208
def k0_mult136 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1437 : BitVec 32 := 512#32
  let v4220 : BitVec 32 := Scalar.muli arg13 c512_i32_1437
  let c352_i32_1438 : BitVec 32 := 352#32
  let v4221 : BitVec 32 := Scalar.addi v4220 c352_i32_1438
  v4221
def k0_mult137 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1451 : BitVec 32 := 512#32
  let v4264 : BitVec 32 := Scalar.muli arg13 c512_i32_1451
  let c352_i32_1452 : BitVec 32 := 352#32
  let v4265 : BitVec 32 := Scalar.addi v4264 c352_i32_1452
  v4265
def k0_mult138 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1462 : BitVec 32 := 512#32
  let v4296 : BitVec 32 := Scalar.muli arg13 c512_i32_1462
  let c360_i32_1463 : BitVec 32 := 360#32
  let v4297 : BitVec 32 := Scalar.addi v4296 c360_i32_1463
  v4297
def k0_mult139 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1473 : BitVec 32 := 512#32
  let v4328 : BitVec 32 := Scalar.muli arg13 c512_i32_1473
  let c368_i32_1474 : BitVec 32 := 368#32
  let v4329 : BitVec 32 := Scalar.addi v4328 c368_i32_1474
  v4329
def k0_mult140 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1484 : BitVec 32 := 512#32
  let v4360 : BitVec 32 := Scalar.muli arg13 c512_i32_1484
  let c376_i32_1485 : BitVec 32 := 376#32
  let v4361 : BitVec 32 := Scalar.addi v4360 c376_i32_1485
  v4361
def k0_mult141 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1491 : BitVec 32 := 512#32
  let v4373 : BitVec 32 := Scalar.muli arg13 c512_i32_1491
  let c384_i32_1492 : BitVec 32 := 384#32
  let v4374 : BitVec 32 := Scalar.addi v4373 c384_i32_1492
  v4374
def k0_mult142 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1505 : BitVec 32 := 512#32
  let v4417 : BitVec 32 := Scalar.muli arg13 c512_i32_1505
  let c384_i32_1506 : BitVec 32 := 384#32
  let v4418 : BitVec 32 := Scalar.addi v4417 c384_i32_1506
  v4418
def k0_mult143 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1516 : BitVec 32 := 512#32
  let v4449 : BitVec 32 := Scalar.muli arg13 c512_i32_1516
  let c392_i32_1517 : BitVec 32 := 392#32
  let v4450 : BitVec 32 := Scalar.addi v4449 c392_i32_1517
  v4450
def k0_mult144 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1527 : BitVec 32 := 512#32
  let v4481 : BitVec 32 := Scalar.muli arg13 c512_i32_1527
  let c400_i32_1528 : BitVec 32 := 400#32
  let v4482 : BitVec 32 := Scalar.addi v4481 c400_i32_1528
  v4482
def k0_mult145 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1538 : BitVec 32 := 512#32
  let v4513 : BitVec 32 := Scalar.muli arg13 c512_i32_1538
  let c408_i32_1539 : BitVec 32 := 408#32
  let v4514 : BitVec 32 := Scalar.addi v4513 c408_i32_1539
  v4514
def k0_mult146 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1545 : BitVec 32 := 512#32
  let v4526 : BitVec 32 := Scalar.muli arg13 c512_i32_1545
  let c416_i32_1546 : BitVec 32 := 416#32
  let v4527 : BitVec 32 := Scalar.addi v4526 c416_i32_1546
  v4527
def k0_mult147 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1559 : BitVec 32 := 512#32
  let v4570 : BitVec 32 := Scalar.muli arg13 c512_i32_1559
  let c416_i32_1560 : BitVec 32 := 416#32
  let v4571 : BitVec 32 := Scalar.addi v4570 c416_i32_1560
  v4571
def k0_mult148 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1570 : BitVec 32 := 512#32
  let v4602 : BitVec 32 := Scalar.muli arg13 c512_i32_1570
  let c424_i32_1571 : BitVec 32 := 424#32
  let v4603 : BitVec 32 := Scalar.addi v4602 c424_i32_1571
  v4603
def k0_mult149 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1581 : BitVec 32 := 512#32
  let v4634 : BitVec 32 := Scalar.muli arg13 c512_i32_1581
  let c432_i32_1582 : BitVec 32 := 432#32
  let v4635 : BitVec 32 := Scalar.addi v4634 c432_i32_1582
  v4635
def k0_mult150 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1592 : BitVec 32 := 512#32
  let v4666 : BitVec 32 := Scalar.muli arg13 c512_i32_1592
  let c440_i32_1593 : BitVec 32 := 440#32
  let v4667 : BitVec 32 := Scalar.addi v4666 c440_i32_1593
  v4667
def k0_mult151 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1599 : BitVec 32 := 512#32
  let v4679 : BitVec 32 := Scalar.muli arg13 c512_i32_1599
  let c448_i32_1600 : BitVec 32 := 448#32
  let v4680 : BitVec 32 := Scalar.addi v4679 c448_i32_1600
  v4680
def k0_mult152 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1613 : BitVec 32 := 512#32
  let v4723 : BitVec 32 := Scalar.muli arg13 c512_i32_1613
  let c448_i32_1614 : BitVec 32 := 448#32
  let v4724 : BitVec 32 := Scalar.addi v4723 c448_i32_1614
  v4724
def k0_mult153 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1624 : BitVec 32 := 512#32
  let v4755 : BitVec 32 := Scalar.muli arg13 c512_i32_1624
  let c456_i32_1625 : BitVec 32 := 456#32
  let v4756 : BitVec 32 := Scalar.addi v4755 c456_i32_1625
  v4756
def k0_mult154 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1635 : BitVec 32 := 512#32
  let v4787 : BitVec 32 := Scalar.muli arg13 c512_i32_1635
  let c464_i32_1636 : BitVec 32 := 464#32
  let v4788 : BitVec 32 := Scalar.addi v4787 c464_i32_1636
  v4788
def k0_mult155 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1646 : BitVec 32 := 512#32
  let v4819 : BitVec 32 := Scalar.muli arg13 c512_i32_1646
  let c472_i32_1647 : BitVec 32 := 472#32
  let v4820 : BitVec 32 := Scalar.addi v4819 c472_i32_1647
  v4820
def k0_mult156 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1653 : BitVec 32 := 512#32
  let v4832 : BitVec 32 := Scalar.muli arg13 c512_i32_1653
  let c480_i32_1654 : BitVec 32 := 480#32
  let v4833 : BitVec 32 := Scalar.addi v4832 c480_i32_1654
  v4833
def k0_mult157 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1667 : BitVec 32 := 512#32
  let v4876 : BitVec 32 := Scalar.muli arg13 c512_i32_1667
  let c480_i32_1668 : BitVec 32 := 480#32
  let v4877 : BitVec 32 := Scalar.addi v4876 c480_i32_1668
  v4877
def k0_mult158 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1678 : BitVec 32 := 512#32
  let v4908 : BitVec 32 := Scalar.muli arg13 c512_i32_1678
  let c488_i32_1679 : BitVec 32 := 488#32
  let v4909 : BitVec 32 := Scalar.addi v4908 c488_i32_1679
  v4909
def k0_mult159 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1689 : BitVec 32 := 512#32
  let v4940 : BitVec 32 := Scalar.muli arg13 c512_i32_1689
  let c496_i32_1690 : BitVec 32 := 496#32
  let v4941 : BitVec 32 := Scalar.addi v4940 c496_i32_1690
  v4941
def k0_mult160 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1700 : BitVec 32 := 512#32
  let v4972 : BitVec 32 := Scalar.muli arg13 c512_i32_1700
  let c504_i32_1701 : BitVec 32 := 504#32
  let v4973 : BitVec 32 := Scalar.addi v4972 c504_i32_1701
  v4973
def k0_mult161 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v4985 : BitVec 32 := Scalar.muli arg13 c1024_i32
  v4985
def k0_off6 (k0_t1 : Fin k0_t1_loop.trips) : Fin 2 → Nat :=
  let c0_1705 : Index := 0#32
  let c0_i32 : BitVec 32 := 0#32
  let c1_i32 : BitVec 32 := 1#32
  let arg13 : BitVec 32 := Scf.iv c0_i32 c1_i32 k0_t1
  let c1024_i32 : BitVec 32 := 1024#32
  let v4985 : BitVec 32 := Scalar.muli arg13 c1024_i32
  let v4986 : BitVec 32 := v4985
  let v4987 : Index := Scalar.indexCast v4986
  ![0, v4987.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S448x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x3584x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S256x7168 : Shape := ⟨2, ![256, 7168]⟩
abbrev S3584x4608 : Shape := ⟨2, ![3584, 4608]⟩
abbrev S448x4608 : Shape := ⟨2, ![448, 4608]⟩
abbrev S36x3584x128 : Shape := ⟨3, ![36, 3584, 128]⟩
abbrev S256x4608 : Shape := ⟨2, ![256, 4608]⟩
abbrev S3584x128 : Shape := ⟨2, ![3584, 128]⟩
abbrev S448x128 : Shape := ⟨2, ![448, 128]⟩
abbrev S2x3584x128 : Shape := ⟨3, ![2, 3584, 128]⟩
abbrev S256x256 : Shape := ⟨2, ![256, 256]⟩
abbrev S2x448x128 : Shape := ⟨3, ![2, 448, 128]⟩
abbrev S2x448x2x128 : Shape := ⟨4, ![2, 448, 2, 128]⟩
abbrev S2x448x1x128 : Shape := ⟨4, ![2, 448, 1, 128]⟩
abbrev S224x128 : Shape := ⟨2, ![224, 128]⟩
abbrev S1x224x128 : Shape := ⟨3, ![1, 224, 128]⟩
abbrev S1x224x2x128 : Shape := ⟨4, ![1, 224, 2, 128]⟩
abbrev S1x224x1x128 : Shape := ⟨4, ![1, 224, 1, 128]⟩
abbrev S32x128 : Shape := ⟨2, ![32, 128]⟩
abbrev S8x128 : Shape := ⟨2, ![8, 128]⟩
abbrev S8x1x128 : Shape := ⟨3, ![8, 1, 128]⟩
abbrev S8x8x128 : Shape := ⟨3, ![8, 8, 128]⟩
abbrev S64x128 : Shape := ⟨2, ![64, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S2x128 : Shape := ⟨2, ![2, 128]⟩
abbrev S1x2x128 : Shape := ⟨3, ![1, 2, 128]⟩
abbrev S8x2x128 : Shape := ⟨3, ![8, 2, 128]⟩
abbrev S16x128 : Shape := ⟨2, ![16, 128]⟩
abbrev S1x8x128 : Shape := ⟨3, ![1, 8, 128]⟩
abbrev S1024x128 : Shape := ⟨2, ![1024, 128]⟩
abbrev S1024x256 : Shape := ⟨2, ![1024, 256]⟩
abbrev S256x1024 : Shape := ⟨2, ![256, 1024]⟩

abbrev nBuf : Space → Nat
  | .hbm => 6
  | .vmem => 20
  | .smem => 0
  | _ => 0

abbrev bufTy : (tb : Table) → Fin (tcTables nBuf tb) → BufTy
  | .hbm, ⟨0, _⟩ => ⟨S256x7168, .bf16⟩
  | .hbm, ⟨1, _⟩ => ⟨S3584x4608, .i8⟩
  | .hbm, ⟨2, _⟩ => ⟨S448x4608, .bf16⟩
  | .hbm, ⟨3, _⟩ => ⟨S448x4608, .i8⟩
  | .hbm, ⟨4, _⟩ => ⟨S36x3584x128, .i32⟩
  | .hbm, ⟨5, _⟩ => ⟨S256x4608, .bf16⟩
  | .local _ .vmem, ⟨0, _⟩ => ⟨S256x7168, .bf16⟩
  | .local _ .vmem, ⟨1, _⟩ => ⟨S3584x128, .i8⟩
  | .local _ .vmem, ⟨2, _⟩ => ⟨S3584x128, .i8⟩
  | .local _ .vmem, ⟨3, _⟩ => ⟨S3584x128, .i8⟩
  | .local _ .vmem, ⟨4, _⟩ => ⟨S3584x128, .i8⟩
  | .local _ .vmem, ⟨5, _⟩ => ⟨S448x128, .bf16⟩
  | .local _ .vmem, ⟨6, _⟩ => ⟨S448x128, .bf16⟩
  | .local _ .vmem, ⟨7, _⟩ => ⟨S448x128, .bf16⟩
  | .local _ .vmem, ⟨8, _⟩ => ⟨S448x128, .bf16⟩
  | .local _ .vmem, ⟨9, _⟩ => ⟨S448x128, .i8⟩
  | .local _ .vmem, ⟨10, _⟩ => ⟨S448x128, .i8⟩
  | .local _ .vmem, ⟨11, _⟩ => ⟨S448x128, .i8⟩
  | .local _ .vmem, ⟨12, _⟩ => ⟨S448x128, .i8⟩
  | .local _ .vmem, ⟨13, _⟩ => ⟨S2x3584x128, .i32⟩
  | .local _ .vmem, ⟨14, _⟩ => ⟨S2x3584x128, .i32⟩
  | .local _ .vmem, ⟨15, _⟩ => ⟨S256x256, .bf16⟩
  | .local _ .vmem, ⟨16, _⟩ => ⟨S256x256, .bf16⟩
  | .local _ .vmem, ⟨17, _⟩ => ⟨S256x256, .f32⟩
  | .local _ .vmem, ⟨18, _⟩ => ⟨S2x448x2x128, .bf16⟩
  | .local _ .vmem, ⟨19, _⟩ => ⟨S2x448x2x128, .bf16⟩
  | _, _ => ⟨S256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![18], ![false]⟩

@[reducible] def k0_t1_loop : Scf.Loop 32 :=
  let c0_i32 : BitVec 32 := 0#32
  let c7_i32 : BitVec 32 := 7#32
  let v82 : BitVec 32 := Scalar.addi c0_i32 c7_i32
  let c1_i32 : BitVec 32 := 1#32
  ⟨c0_i32, v82, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v88 : BitVec 32 := Scalar.muli arg13 c512_i32
  let c0_i32_53 : BitVec 32 := 0#32
  let v89 : BitVec 32 := Scalar.addi v88 c0_i32_53
  v89
def k0_off1 (k0_t1 : Fin k0_t1_loop.trips) (c0_i32_53 : BitVec 32) : Fin 2 → Nat :=
  let c0_i32 : BitVec 32 := 0#32
  let c1_i32 : BitVec 32 := 1#32
  let arg13 : BitVec 32 := Scf.iv c0_i32 c1_i32 k0_t1
  let c512_i32 : BitVec 32 := 512#32
  let v88 : BitVec 32 := Scalar.muli arg13 c512_i32
  let v89 : BitVec 32 := Scalar.addi v88 c0_i32_53
  let v90 : BitVec 32 := v89
  let v91 : Index := Scalar.indexCast v90
  let c0_54 : Index := 0#32
  ![v91.toNat, 0]
def k0_off2 (k0_t1 : Fin k0_t1_loop.trips) (c0_i32_52 : BitVec 32) (c0_i32_57 : BitVec 32) : Fin 4 → Nat :=
  let c0_58 : Index := 0#32
  let c0_i32 : BitVec 32 := 0#32
  let c1_i32 : BitVec 32 := 1#32
  let arg13 : BitVec 32 := Scf.iv c0_i32 c1_i32 k0_t1
  let c64_i32 : BitVec 32 := 64#32
  let v86 : BitVec 32 := Scalar.muli arg13 c64_i32
  let v87 : BitVec 32 := Scalar.addi v86 c0_i32_52
  let v111 : BitVec 32 := Scalar.addi v87 c0_i32_57
  let v112 : Index := Scalar.indexCast v111
  let c0_59 : Index := 0#32
  ![0, v112.toNat, 0, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_63 : BitVec 32 := 512#32
  let v132 : BitVec 32 := Scalar.muli arg13 c512_i32_63
  let c0_i32_64 : BitVec 32 := 0#32
  let v133 : BitVec 32 := Scalar.addi v132 c0_i32_64
  v133
def k0_off3 (k0_t1 : Fin k0_t1_loop.trips) (c0_i32_64 : BitVec 32) : Fin 3 → Nat :=
  let c0_65 : Index := 0#32
  let c0_i32 : BitVec 32 := 0#32
  let c1_i32 : BitVec 32 := 1#32
  let arg13 : BitVec 32 := Scf.iv c0_i32 c1_i32 k0_t1
  let c512_i32_63 : BitVec 32 := 512#32
  let v132 : BitVec 32 := Scalar.muli arg13 c512_i32_63
  let v133 : BitVec 32 := Scalar.addi v132 c0_i32_64
  let v134 : BitVec 32 := v133
  let v135 : Index := Scalar.indexCast v134
  let c0_66 : Index := 0#32
  ![0, v135.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_73 : BitVec 32 := 512#32
  let v164 : BitVec 32 := Scalar.muli arg13 c512_i32_73
  let c8_i32 : BitVec 32 := 8#32
  let v165 : BitVec 32 := Scalar.addi v164 c8_i32
  v165
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_82 : BitVec 32 := 512#32
  let v196 : BitVec 32 := Scalar.muli arg13 c512_i32_82
  let c16_i32_83 : BitVec 32 := 16#32
  let v197 : BitVec 32 := Scalar.addi v196 c16_i32_83
  v197
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_92 : BitVec 32 := 512#32
  let v228 : BitVec 32 := Scalar.muli arg13 c512_i32_92
  let c24_i32 : BitVec 32 := 24#32
  let v229 : BitVec 32 := Scalar.addi v228 c24_i32
  v229
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_98 : BitVec 32 := 512#32
  let v241 : BitVec 32 := Scalar.muli arg13 c512_i32_98
  let c32_i32 : BitVec 32 := 32#32
  let v242 : BitVec 32 := Scalar.addi v241 c32_i32
  v242
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_111 : BitVec 32 := 512#32
  let v285 : BitVec 32 := Scalar.muli arg13 c512_i32_111
  let c32_i32_112 : BitVec 32 := 32#32
  let v286 : BitVec 32 := Scalar.addi v285 c32_i32_112
  v286
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_122 : BitVec 32 := 512#32
  let v317 : BitVec 32 := Scalar.muli arg13 c512_i32_122
  let c40_i32 : BitVec 32 := 40#32
  let v318 : BitVec 32 := Scalar.addi v317 c40_i32
  v318
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_132 : BitVec 32 := 512#32
  let v349 : BitVec 32 := Scalar.muli arg13 c512_i32_132
  let c48_i32 : BitVec 32 := 48#32
  let v350 : BitVec 32 := Scalar.addi v349 c48_i32
  v350
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_142 : BitVec 32 := 512#32
  let v381 : BitVec 32 := Scalar.muli arg13 c512_i32_142
  let c56_i32 : BitVec 32 := 56#32
  let v382 : BitVec 32 := Scalar.addi v381 c56_i32
  v382
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_148 : BitVec 32 := 512#32
  let v394 : BitVec 32 := Scalar.muli arg13 c512_i32_148
  let c64_i32_149 : BitVec 32 := 64#32
  let v395 : BitVec 32 := Scalar.addi v394 c64_i32_149
  v395
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_162 : BitVec 32 := 512#32
  let v438 : BitVec 32 := Scalar.muli arg13 c512_i32_162
  let c64_i32_163 : BitVec 32 := 64#32
  let v439 : BitVec 32 := Scalar.addi v438 c64_i32_163
  v439
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_173 : BitVec 32 := 512#32
  let v470 : BitVec 32 := Scalar.muli arg13 c512_i32_173
  let c72_i32 : BitVec 32 := 72#32
  let v471 : BitVec 32 := Scalar.addi v470 c72_i32
  v471
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_183 : BitVec 32 := 512#32
  let v502 : BitVec 32 := Scalar.muli arg13 c512_i32_183
  let c80_i32 : BitVec 32 := 80#32
  let v503 : BitVec 32 := Scalar.addi v502 c80_i32
  v503
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_193 : BitVec 32 := 512#32
  let v534 : BitVec 32 := Scalar.muli arg13 c512_i32_193
  let c88_i32 : BitVec 32 := 88#32
  let v535 : BitVec 32 := Scalar.addi v534 c88_i32
  v535
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_198 : BitVec 32 := 512#32
  let v547 : BitVec 32 := Scalar.muli arg13 c512_i32_198
  let c96_i32 : BitVec 32 := 96#32
  let v548 : BitVec 32 := Scalar.addi v547 c96_i32
  v548
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_211 : BitVec 32 := 512#32
  let v591 : BitVec 32 := Scalar.muli arg13 c512_i32_211
  let c96_i32_212 : BitVec 32 := 96#32
  let v592 : BitVec 32 := Scalar.addi v591 c96_i32_212
  v592
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_222 : BitVec 32 := 512#32
  let v623 : BitVec 32 := Scalar.muli arg13 c512_i32_222
  let c104_i32 : BitVec 32 := 104#32
  let v624 : BitVec 32 := Scalar.addi v623 c104_i32
  v624
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_232 : BitVec 32 := 512#32
  let v655 : BitVec 32 := Scalar.muli arg13 c512_i32_232
  let c112_i32 : BitVec 32 := 112#32
  let v656 : BitVec 32 := Scalar.addi v655 c112_i32
  v656
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_242 : BitVec 32 := 512#32
  let v687 : BitVec 32 := Scalar.muli arg13 c512_i32_242
  let c120_i32 : BitVec 32 := 120#32
  let v688 : BitVec 32 := Scalar.addi v687 c120_i32
  v688
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_248 : BitVec 32 := 512#32
  let v700 : BitVec 32 := Scalar.muli arg13 c512_i32_248
  let c128_i32 : BitVec 32 := 128#32
  let v701 : BitVec 32 := Scalar.addi v700 c128_i32
  v701
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_261 : BitVec 32 := 512#32
  let v744 : BitVec 32 := Scalar.muli arg13 c512_i32_261
  let c128_i32_262 : BitVec 32 := 128#32
  let v745 : BitVec 32 := Scalar.addi v744 c128_i32_262
  v745
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_272 : BitVec 32 := 512#32
  let v776 : BitVec 32 := Scalar.muli arg13 c512_i32_272
  let c136_i32 : BitVec 32 := 136#32
  let v777 : BitVec 32 := Scalar.addi v776 c136_i32
  v777
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_282 : BitVec 32 := 512#32
  let v808 : BitVec 32 := Scalar.muli arg13 c512_i32_282
  let c144_i32 : BitVec 32 := 144#32
  let v809 : BitVec 32 := Scalar.addi v808 c144_i32
  v809
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_292 : BitVec 32 := 512#32
  let v840 : BitVec 32 := Scalar.muli arg13 c512_i32_292
  let c152_i32 : BitVec 32 := 152#32
  let v841 : BitVec 32 := Scalar.addi v840 c152_i32
  v841
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_297 : BitVec 32 := 512#32
  let v853 : BitVec 32 := Scalar.muli arg13 c512_i32_297
  let c160_i32 : BitVec 32 := 160#32
  let v854 : BitVec 32 := Scalar.addi v853 c160_i32
  v854
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_310 : BitVec 32 := 512#32
  let v897 : BitVec 32 := Scalar.muli arg13 c512_i32_310
  let c160_i32_311 : BitVec 32 := 160#32
  let v898 : BitVec 32 := Scalar.addi v897 c160_i32_311
  v898
def k0_mult28 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_321 : BitVec 32 := 512#32
  let v929 : BitVec 32 := Scalar.muli arg13 c512_i32_321
  let c168_i32 : BitVec 32 := 168#32
  let v930 : BitVec 32 := Scalar.addi v929 c168_i32
  v930
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_331 : BitVec 32 := 512#32
  let v961 : BitVec 32 := Scalar.muli arg13 c512_i32_331
  let c176_i32 : BitVec 32 := 176#32
  let v962 : BitVec 32 := Scalar.addi v961 c176_i32
  v962
def k0_mult30 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_341 : BitVec 32 := 512#32
  let v993 : BitVec 32 := Scalar.muli arg13 c512_i32_341
  let c184_i32 : BitVec 32 := 184#32
  let v994 : BitVec 32 := Scalar.addi v993 c184_i32
  v994
def k0_mult31 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_347 : BitVec 32 := 512#32
  let v1006 : BitVec 32 := Scalar.muli arg13 c512_i32_347
  let c192_i32 : BitVec 32 := 192#32
  let v1007 : BitVec 32 := Scalar.addi v1006 c192_i32
  v1007
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_360 : BitVec 32 := 512#32
  let v1050 : BitVec 32 := Scalar.muli arg13 c512_i32_360
  let c192_i32_361 : BitVec 32 := 192#32
  let v1051 : BitVec 32 := Scalar.addi v1050 c192_i32_361
  v1051
def k0_mult33 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_371 : BitVec 32 := 512#32
  let v1082 : BitVec 32 := Scalar.muli arg13 c512_i32_371
  let c200_i32 : BitVec 32 := 200#32
  let v1083 : BitVec 32 := Scalar.addi v1082 c200_i32
  v1083
def k0_mult34 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_381 : BitVec 32 := 512#32
  let v1114 : BitVec 32 := Scalar.muli arg13 c512_i32_381
  let c208_i32 : BitVec 32 := 208#32
  let v1115 : BitVec 32 := Scalar.addi v1114 c208_i32
  v1115
def k0_mult35 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_391 : BitVec 32 := 512#32
  let v1146 : BitVec 32 := Scalar.muli arg13 c512_i32_391
  let c216_i32 : BitVec 32 := 216#32
  let v1147 : BitVec 32 := Scalar.addi v1146 c216_i32
  v1147
def k0_mult36 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_397 : BitVec 32 := 512#32
  let v1159 : BitVec 32 := Scalar.muli arg13 c512_i32_397
  let c224_i32 : BitVec 32 := 224#32
  let v1160 : BitVec 32 := Scalar.addi v1159 c224_i32
  v1160
def k0_mult37 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_410 : BitVec 32 := 512#32
  let v1203 : BitVec 32 := Scalar.muli arg13 c512_i32_410
  let c224_i32_411 : BitVec 32 := 224#32
  let v1204 : BitVec 32 := Scalar.addi v1203 c224_i32_411
  v1204
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_421 : BitVec 32 := 512#32
  let v1235 : BitVec 32 := Scalar.muli arg13 c512_i32_421
  let c232_i32 : BitVec 32 := 232#32
  let v1236 : BitVec 32 := Scalar.addi v1235 c232_i32
  v1236
def k0_mult39 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_431 : BitVec 32 := 512#32
  let v1267 : BitVec 32 := Scalar.muli arg13 c512_i32_431
  let c240_i32 : BitVec 32 := 240#32
  let v1268 : BitVec 32 := Scalar.addi v1267 c240_i32
  v1268
def k0_mult40 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_441 : BitVec 32 := 512#32
  let v1299 : BitVec 32 := Scalar.muli arg13 c512_i32_441
  let c248_i32 : BitVec 32 := 248#32
  let v1300 : BitVec 32 := Scalar.addi v1299 c248_i32
  v1300
def k0_mult41 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_447 : BitVec 32 := 512#32
  let v1312 : BitVec 32 := Scalar.muli arg13 c512_i32_447
  let c256_i32 : BitVec 32 := 256#32
  let v1313 : BitVec 32 := Scalar.addi v1312 c256_i32
  v1313
def k0_mult42 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_460 : BitVec 32 := 512#32
  let v1356 : BitVec 32 := Scalar.muli arg13 c512_i32_460
  let c256_i32_461 : BitVec 32 := 256#32
  let v1357 : BitVec 32 := Scalar.addi v1356 c256_i32_461
  v1357
def k0_mult43 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_471 : BitVec 32 := 512#32
  let v1388 : BitVec 32 := Scalar.muli arg13 c512_i32_471
  let c264_i32 : BitVec 32 := 264#32
  let v1389 : BitVec 32 := Scalar.addi v1388 c264_i32
  v1389
def k0_mult44 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_481 : BitVec 32 := 512#32
  let v1420 : BitVec 32 := Scalar.muli arg13 c512_i32_481
  let c272_i32 : BitVec 32 := 272#32
  let v1421 : BitVec 32 := Scalar.addi v1420 c272_i32
  v1421
def k0_mult45 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_491 : BitVec 32 := 512#32
  let v1452 : BitVec 32 := Scalar.muli arg13 c512_i32_491
  let c280_i32 : BitVec 32 := 280#32
  let v1453 : BitVec 32 := Scalar.addi v1452 c280_i32
  v1453
def k0_mult46 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_496 : BitVec 32 := 512#32
  let v1465 : BitVec 32 := Scalar.muli arg13 c512_i32_496
  let c288_i32 : BitVec 32 := 288#32
  let v1466 : BitVec 32 := Scalar.addi v1465 c288_i32
  v1466
def k0_mult47 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_509 : BitVec 32 := 512#32
  let v1509 : BitVec 32 := Scalar.muli arg13 c512_i32_509
  let c288_i32_510 : BitVec 32 := 288#32
  let v1510 : BitVec 32 := Scalar.addi v1509 c288_i32_510
  v1510
def k0_mult48 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_520 : BitVec 32 := 512#32
  let v1541 : BitVec 32 := Scalar.muli arg13 c512_i32_520
  let c296_i32 : BitVec 32 := 296#32
  let v1542 : BitVec 32 := Scalar.addi v1541 c296_i32
  v1542
def k0_mult49 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_530 : BitVec 32 := 512#32
  let v1573 : BitVec 32 := Scalar.muli arg13 c512_i32_530
  let c304_i32 : BitVec 32 := 304#32
  let v1574 : BitVec 32 := Scalar.addi v1573 c304_i32
  v1574
def k0_mult50 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_540 : BitVec 32 := 512#32
  let v1605 : BitVec 32 := Scalar.muli arg13 c512_i32_540
  let c312_i32 : BitVec 32 := 312#32
  let v1606 : BitVec 32 := Scalar.addi v1605 c312_i32
  v1606
def k0_mult51 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_546 : BitVec 32 := 512#32
  let v1618 : BitVec 32 := Scalar.muli arg13 c512_i32_546
  let c320_i32 : BitVec 32 := 320#32
  let v1619 : BitVec 32 := Scalar.addi v1618 c320_i32
  v1619
def k0_mult52 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_559 : BitVec 32 := 512#32
  let v1662 : BitVec 32 := Scalar.muli arg13 c512_i32_559
  let c320_i32_560 : BitVec 32 := 320#32
  let v1663 : BitVec 32 := Scalar.addi v1662 c320_i32_560
  v1663
def k0_mult53 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_570 : BitVec 32 := 512#32
  let v1694 : BitVec 32 := Scalar.muli arg13 c512_i32_570
  let c328_i32 : BitVec 32 := 328#32
  let v1695 : BitVec 32 := Scalar.addi v1694 c328_i32
  v1695
def k0_mult54 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_580 : BitVec 32 := 512#32
  let v1726 : BitVec 32 := Scalar.muli arg13 c512_i32_580
  let c336_i32 : BitVec 32 := 336#32
  let v1727 : BitVec 32 := Scalar.addi v1726 c336_i32
  v1727
def k0_mult55 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_590 : BitVec 32 := 512#32
  let v1758 : BitVec 32 := Scalar.muli arg13 c512_i32_590
  let c344_i32 : BitVec 32 := 344#32
  let v1759 : BitVec 32 := Scalar.addi v1758 c344_i32
  v1759
def k0_mult56 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_595 : BitVec 32 := 512#32
  let v1771 : BitVec 32 := Scalar.muli arg13 c512_i32_595
  let c352_i32 : BitVec 32 := 352#32
  let v1772 : BitVec 32 := Scalar.addi v1771 c352_i32
  v1772
def k0_mult57 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_608 : BitVec 32 := 512#32
  let v1815 : BitVec 32 := Scalar.muli arg13 c512_i32_608
  let c352_i32_609 : BitVec 32 := 352#32
  let v1816 : BitVec 32 := Scalar.addi v1815 c352_i32_609
  v1816
def k0_mult58 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_619 : BitVec 32 := 512#32
  let v1847 : BitVec 32 := Scalar.muli arg13 c512_i32_619
  let c360_i32 : BitVec 32 := 360#32
  let v1848 : BitVec 32 := Scalar.addi v1847 c360_i32
  v1848
def k0_mult59 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_629 : BitVec 32 := 512#32
  let v1879 : BitVec 32 := Scalar.muli arg13 c512_i32_629
  let c368_i32 : BitVec 32 := 368#32
  let v1880 : BitVec 32 := Scalar.addi v1879 c368_i32
  v1880
def k0_mult60 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_639 : BitVec 32 := 512#32
  let v1911 : BitVec 32 := Scalar.muli arg13 c512_i32_639
  let c376_i32 : BitVec 32 := 376#32
  let v1912 : BitVec 32 := Scalar.addi v1911 c376_i32
  v1912
def k0_mult61 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_645 : BitVec 32 := 512#32
  let v1924 : BitVec 32 := Scalar.muli arg13 c512_i32_645
  let c384_i32 : BitVec 32 := 384#32
  let v1925 : BitVec 32 := Scalar.addi v1924 c384_i32
  v1925
def k0_mult62 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_658 : BitVec 32 := 512#32
  let v1968 : BitVec 32 := Scalar.muli arg13 c512_i32_658
  let c384_i32_659 : BitVec 32 := 384#32
  let v1969 : BitVec 32 := Scalar.addi v1968 c384_i32_659
  v1969
def k0_mult63 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_669 : BitVec 32 := 512#32
  let v2000 : BitVec 32 := Scalar.muli arg13 c512_i32_669
  let c392_i32 : BitVec 32 := 392#32
  let v2001 : BitVec 32 := Scalar.addi v2000 c392_i32
  v2001
def k0_mult64 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_679 : BitVec 32 := 512#32
  let v2032 : BitVec 32 := Scalar.muli arg13 c512_i32_679
  let c400_i32 : BitVec 32 := 400#32
  let v2033 : BitVec 32 := Scalar.addi v2032 c400_i32
  v2033
def k0_mult65 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_689 : BitVec 32 := 512#32
  let v2064 : BitVec 32 := Scalar.muli arg13 c512_i32_689
  let c408_i32 : BitVec 32 := 408#32
  let v2065 : BitVec 32 := Scalar.addi v2064 c408_i32
  v2065
def k0_mult66 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_694 : BitVec 32 := 512#32
  let v2077 : BitVec 32 := Scalar.muli arg13 c512_i32_694
  let c416_i32 : BitVec 32 := 416#32
  let v2078 : BitVec 32 := Scalar.addi v2077 c416_i32
  v2078
def k0_mult67 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_707 : BitVec 32 := 512#32
  let v2121 : BitVec 32 := Scalar.muli arg13 c512_i32_707
  let c416_i32_708 : BitVec 32 := 416#32
  let v2122 : BitVec 32 := Scalar.addi v2121 c416_i32_708
  v2122
def k0_mult68 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_718 : BitVec 32 := 512#32
  let v2153 : BitVec 32 := Scalar.muli arg13 c512_i32_718
  let c424_i32 : BitVec 32 := 424#32
  let v2154 : BitVec 32 := Scalar.addi v2153 c424_i32
  v2154
def k0_mult69 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_728 : BitVec 32 := 512#32
  let v2185 : BitVec 32 := Scalar.muli arg13 c512_i32_728
  let c432_i32 : BitVec 32 := 432#32
  let v2186 : BitVec 32 := Scalar.addi v2185 c432_i32
  v2186
def k0_mult70 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_738 : BitVec 32 := 512#32
  let v2217 : BitVec 32 := Scalar.muli arg13 c512_i32_738
  let c440_i32 : BitVec 32 := 440#32
  let v2218 : BitVec 32 := Scalar.addi v2217 c440_i32
  v2218
def k0_mult71 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_744 : BitVec 32 := 512#32
  let v2230 : BitVec 32 := Scalar.muli arg13 c512_i32_744
  let c448_i32 : BitVec 32 := 448#32
  let v2231 : BitVec 32 := Scalar.addi v2230 c448_i32
  v2231
def k0_mult72 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_757 : BitVec 32 := 512#32
  let v2274 : BitVec 32 := Scalar.muli arg13 c512_i32_757
  let c448_i32_758 : BitVec 32 := 448#32
  let v2275 : BitVec 32 := Scalar.addi v2274 c448_i32_758
  v2275
def k0_mult73 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_768 : BitVec 32 := 512#32
  let v2306 : BitVec 32 := Scalar.muli arg13 c512_i32_768
  let c456_i32 : BitVec 32 := 456#32
  let v2307 : BitVec 32 := Scalar.addi v2306 c456_i32
  v2307
def k0_mult74 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_778 : BitVec 32 := 512#32
  let v2338 : BitVec 32 := Scalar.muli arg13 c512_i32_778
  let c464_i32 : BitVec 32 := 464#32
  let v2339 : BitVec 32 := Scalar.addi v2338 c464_i32
  v2339
def k0_mult75 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_788 : BitVec 32 := 512#32
  let v2370 : BitVec 32 := Scalar.muli arg13 c512_i32_788
  let c472_i32 : BitVec 32 := 472#32
  let v2371 : BitVec 32 := Scalar.addi v2370 c472_i32
  v2371
def k0_mult76 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_793 : BitVec 32 := 512#32
  let v2383 : BitVec 32 := Scalar.muli arg13 c512_i32_793
  let c480_i32 : BitVec 32 := 480#32
  let v2384 : BitVec 32 := Scalar.addi v2383 c480_i32
  v2384
def k0_mult77 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_806 : BitVec 32 := 512#32
  let v2427 : BitVec 32 := Scalar.muli arg13 c512_i32_806
  let c480_i32_807 : BitVec 32 := 480#32
  let v2428 : BitVec 32 := Scalar.addi v2427 c480_i32_807
  v2428
def k0_mult78 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_817 : BitVec 32 := 512#32
  let v2459 : BitVec 32 := Scalar.muli arg13 c512_i32_817
  let c488_i32 : BitVec 32 := 488#32
  let v2460 : BitVec 32 := Scalar.addi v2459 c488_i32
  v2460
def k0_mult79 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_827 : BitVec 32 := 512#32
  let v2491 : BitVec 32 := Scalar.muli arg13 c512_i32_827
  let c496_i32 : BitVec 32 := 496#32
  let v2492 : BitVec 32 := Scalar.addi v2491 c496_i32
  v2492
def k0_mult80 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_837 : BitVec 32 := 512#32
  let v2523 : BitVec 32 := Scalar.muli arg13 c512_i32_837
  let c504_i32 : BitVec 32 := 504#32
  let v2524 : BitVec 32 := Scalar.addi v2523 c504_i32
  v2524
def k0_mult81 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_843 : BitVec 32 := 512#32
  let v2537 : BitVec 32 := Scalar.muli arg13 c512_i32_843
  let c0_i32_844 : BitVec 32 := 0#32
  let v2538 : BitVec 32 := Scalar.addi v2537 c0_i32_844
  v2538
def k0_off4 (k0_t1 : Fin k0_t1_loop.trips) (c0_i32_842 : BitVec 32) (c0_i32_851 : BitVec 32) : Fin 4 → Nat :=
  let c1_852 : Index := 1#32
  let c0_i32 : BitVec 32 := 0#32
  let c1_i32 : BitVec 32 := 1#32
  let arg13 : BitVec 32 := Scf.iv c0_i32 c1_i32 k0_t1
  let c64_i32_841 : BitVec 32 := 64#32
  let v2535 : BitVec 32 := Scalar.muli arg13 c64_i32_841
  let v2536 : BitVec 32 := Scalar.addi v2535 c0_i32_842
  let v2560 : BitVec 32 := Scalar.addi v2536 c0_i32_851
  let v2561 : Index := Scalar.indexCast v2560
  let c0_853 : Index := 0#32
  ![1, v2561.toNat, 0, 0]
def k0_mult82 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_857 : BitVec 32 := 512#32
  let v2581 : BitVec 32 := Scalar.muli arg13 c512_i32_857
  let c0_i32_858 : BitVec 32 := 0#32
  let v2582 : BitVec 32 := Scalar.addi v2581 c0_i32_858
  v2582
def k0_off5 (k0_t1 : Fin k0_t1_loop.trips) (c0_i32_858 : BitVec 32) : Fin 3 → Nat :=
  let c1_859 : Index := 1#32
  let c0_i32 : BitVec 32 := 0#32
  let c1_i32 : BitVec 32 := 1#32
  let arg13 : BitVec 32 := Scf.iv c0_i32 c1_i32 k0_t1
  let c512_i32_857 : BitVec 32 := 512#32
  let v2581 : BitVec 32 := Scalar.muli arg13 c512_i32_857
  let v2582 : BitVec 32 := Scalar.addi v2581 c0_i32_858
  let v2583 : BitVec 32 := v2582
  let v2584 : Index := Scalar.indexCast v2583
  let c0_860 : Index := 0#32
  ![1, v2584.toNat, 0]
def k0_mult83 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_868 : BitVec 32 := 512#32
  let v2613 : BitVec 32 := Scalar.muli arg13 c512_i32_868
  let c8_i32_869 : BitVec 32 := 8#32
  let v2614 : BitVec 32 := Scalar.addi v2613 c8_i32_869
  v2614
def k0_mult84 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_879 : BitVec 32 := 512#32
  let v2645 : BitVec 32 := Scalar.muli arg13 c512_i32_879
  let c16_i32_880 : BitVec 32 := 16#32
  let v2646 : BitVec 32 := Scalar.addi v2645 c16_i32_880
  v2646
def k0_mult85 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_890 : BitVec 32 := 512#32
  let v2677 : BitVec 32 := Scalar.muli arg13 c512_i32_890
  let c24_i32_891 : BitVec 32 := 24#32
  let v2678 : BitVec 32 := Scalar.addi v2677 c24_i32_891
  v2678
def k0_mult86 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_897 : BitVec 32 := 512#32
  let v2690 : BitVec 32 := Scalar.muli arg13 c512_i32_897
  let c32_i32_898 : BitVec 32 := 32#32
  let v2691 : BitVec 32 := Scalar.addi v2690 c32_i32_898
  v2691
def k0_mult87 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_911 : BitVec 32 := 512#32
  let v2734 : BitVec 32 := Scalar.muli arg13 c512_i32_911
  let c32_i32_912 : BitVec 32 := 32#32
  let v2735 : BitVec 32 := Scalar.addi v2734 c32_i32_912
  v2735
def k0_mult88 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_922 : BitVec 32 := 512#32
  let v2766 : BitVec 32 := Scalar.muli arg13 c512_i32_922
  let c40_i32_923 : BitVec 32 := 40#32
  let v2767 : BitVec 32 := Scalar.addi v2766 c40_i32_923
  v2767
def k0_mult89 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_933 : BitVec 32 := 512#32
  let v2798 : BitVec 32 := Scalar.muli arg13 c512_i32_933
  let c48_i32_934 : BitVec 32 := 48#32
  let v2799 : BitVec 32 := Scalar.addi v2798 c48_i32_934
  v2799
def k0_mult90 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_944 : BitVec 32 := 512#32
  let v2830 : BitVec 32 := Scalar.muli arg13 c512_i32_944
  let c56_i32_945 : BitVec 32 := 56#32
  let v2831 : BitVec 32 := Scalar.addi v2830 c56_i32_945
  v2831
def k0_mult91 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_951 : BitVec 32 := 512#32
  let v2843 : BitVec 32 := Scalar.muli arg13 c512_i32_951
  let c64_i32_952 : BitVec 32 := 64#32
  let v2844 : BitVec 32 := Scalar.addi v2843 c64_i32_952
  v2844
def k0_mult92 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_965 : BitVec 32 := 512#32
  let v2887 : BitVec 32 := Scalar.muli arg13 c512_i32_965
  let c64_i32_966 : BitVec 32 := 64#32
  let v2888 : BitVec 32 := Scalar.addi v2887 c64_i32_966
  v2888
def k0_mult93 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_976 : BitVec 32 := 512#32
  let v2919 : BitVec 32 := Scalar.muli arg13 c512_i32_976
  let c72_i32_977 : BitVec 32 := 72#32
  let v2920 : BitVec 32 := Scalar.addi v2919 c72_i32_977
  v2920
def k0_mult94 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_987 : BitVec 32 := 512#32
  let v2951 : BitVec 32 := Scalar.muli arg13 c512_i32_987
  let c80_i32_988 : BitVec 32 := 80#32
  let v2952 : BitVec 32 := Scalar.addi v2951 c80_i32_988
  v2952
def k0_mult95 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_998 : BitVec 32 := 512#32
  let v2983 : BitVec 32 := Scalar.muli arg13 c512_i32_998
  let c88_i32_999 : BitVec 32 := 88#32
  let v2984 : BitVec 32 := Scalar.addi v2983 c88_i32_999
  v2984
def k0_mult96 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1005 : BitVec 32 := 512#32
  let v2996 : BitVec 32 := Scalar.muli arg13 c512_i32_1005
  let c96_i32_1006 : BitVec 32 := 96#32
  let v2997 : BitVec 32 := Scalar.addi v2996 c96_i32_1006
  v2997
def k0_mult97 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1019 : BitVec 32 := 512#32
  let v3040 : BitVec 32 := Scalar.muli arg13 c512_i32_1019
  let c96_i32_1020 : BitVec 32 := 96#32
  let v3041 : BitVec 32 := Scalar.addi v3040 c96_i32_1020
  v3041
def k0_mult98 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1030 : BitVec 32 := 512#32
  let v3072 : BitVec 32 := Scalar.muli arg13 c512_i32_1030
  let c104_i32_1031 : BitVec 32 := 104#32
  let v3073 : BitVec 32 := Scalar.addi v3072 c104_i32_1031
  v3073
def k0_mult99 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1041 : BitVec 32 := 512#32
  let v3104 : BitVec 32 := Scalar.muli arg13 c512_i32_1041
  let c112_i32_1042 : BitVec 32 := 112#32
  let v3105 : BitVec 32 := Scalar.addi v3104 c112_i32_1042
  v3105
def k0_mult100 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1052 : BitVec 32 := 512#32
  let v3136 : BitVec 32 := Scalar.muli arg13 c512_i32_1052
  let c120_i32_1053 : BitVec 32 := 120#32
  let v3137 : BitVec 32 := Scalar.addi v3136 c120_i32_1053
  v3137
def k0_mult101 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1059 : BitVec 32 := 512#32
  let v3149 : BitVec 32 := Scalar.muli arg13 c512_i32_1059
  let c128_i32_1060 : BitVec 32 := 128#32
  let v3150 : BitVec 32 := Scalar.addi v3149 c128_i32_1060
  v3150
def k0_mult102 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1073 : BitVec 32 := 512#32
  let v3193 : BitVec 32 := Scalar.muli arg13 c512_i32_1073
  let c128_i32_1074 : BitVec 32 := 128#32
  let v3194 : BitVec 32 := Scalar.addi v3193 c128_i32_1074
  v3194
def k0_mult103 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1084 : BitVec 32 := 512#32
  let v3225 : BitVec 32 := Scalar.muli arg13 c512_i32_1084
  let c136_i32_1085 : BitVec 32 := 136#32
  let v3226 : BitVec 32 := Scalar.addi v3225 c136_i32_1085
  v3226
def k0_mult104 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1095 : BitVec 32 := 512#32
  let v3257 : BitVec 32 := Scalar.muli arg13 c512_i32_1095
  let c144_i32_1096 : BitVec 32 := 144#32
  let v3258 : BitVec 32 := Scalar.addi v3257 c144_i32_1096
  v3258
def k0_mult105 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1106 : BitVec 32 := 512#32
  let v3289 : BitVec 32 := Scalar.muli arg13 c512_i32_1106
  let c152_i32_1107 : BitVec 32 := 152#32
  let v3290 : BitVec 32 := Scalar.addi v3289 c152_i32_1107
  v3290
def k0_mult106 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1113 : BitVec 32 := 512#32
  let v3302 : BitVec 32 := Scalar.muli arg13 c512_i32_1113
  let c160_i32_1114 : BitVec 32 := 160#32
  let v3303 : BitVec 32 := Scalar.addi v3302 c160_i32_1114
  v3303
def k0_mult107 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1127 : BitVec 32 := 512#32
  let v3346 : BitVec 32 := Scalar.muli arg13 c512_i32_1127
  let c160_i32_1128 : BitVec 32 := 160#32
  let v3347 : BitVec 32 := Scalar.addi v3346 c160_i32_1128
  v3347
def k0_mult108 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1138 : BitVec 32 := 512#32
  let v3378 : BitVec 32 := Scalar.muli arg13 c512_i32_1138
  let c168_i32_1139 : BitVec 32 := 168#32
  let v3379 : BitVec 32 := Scalar.addi v3378 c168_i32_1139
  v3379
def k0_mult109 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1149 : BitVec 32 := 512#32
  let v3410 : BitVec 32 := Scalar.muli arg13 c512_i32_1149
  let c176_i32_1150 : BitVec 32 := 176#32
  let v3411 : BitVec 32 := Scalar.addi v3410 c176_i32_1150
  v3411
def k0_mult110 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1160 : BitVec 32 := 512#32
  let v3442 : BitVec 32 := Scalar.muli arg13 c512_i32_1160
  let c184_i32_1161 : BitVec 32 := 184#32
  let v3443 : BitVec 32 := Scalar.addi v3442 c184_i32_1161
  v3443
def k0_mult111 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1167 : BitVec 32 := 512#32
  let v3455 : BitVec 32 := Scalar.muli arg13 c512_i32_1167
  let c192_i32_1168 : BitVec 32 := 192#32
  let v3456 : BitVec 32 := Scalar.addi v3455 c192_i32_1168
  v3456
def k0_mult112 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1181 : BitVec 32 := 512#32
  let v3499 : BitVec 32 := Scalar.muli arg13 c512_i32_1181
  let c192_i32_1182 : BitVec 32 := 192#32
  let v3500 : BitVec 32 := Scalar.addi v3499 c192_i32_1182
  v3500
def k0_mult113 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1192 : BitVec 32 := 512#32
  let v3531 : BitVec 32 := Scalar.muli arg13 c512_i32_1192
  let c200_i32_1193 : BitVec 32 := 200#32
  let v3532 : BitVec 32 := Scalar.addi v3531 c200_i32_1193
  v3532
def k0_mult114 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1203 : BitVec 32 := 512#32
  let v3563 : BitVec 32 := Scalar.muli arg13 c512_i32_1203
  let c208_i32_1204 : BitVec 32 := 208#32
  let v3564 : BitVec 32 := Scalar.addi v3563 c208_i32_1204
  v3564
def k0_mult115 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1214 : BitVec 32 := 512#32
  let v3595 : BitVec 32 := Scalar.muli arg13 c512_i32_1214
  let c216_i32_1215 : BitVec 32 := 216#32
  let v3596 : BitVec 32 := Scalar.addi v3595 c216_i32_1215
  v3596
def k0_mult116 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1221 : BitVec 32 := 512#32
  let v3608 : BitVec 32 := Scalar.muli arg13 c512_i32_1221
  let c224_i32_1222 : BitVec 32 := 224#32
  let v3609 : BitVec 32 := Scalar.addi v3608 c224_i32_1222
  v3609
def k0_mult117 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1235 : BitVec 32 := 512#32
  let v3652 : BitVec 32 := Scalar.muli arg13 c512_i32_1235
  let c224_i32_1236 : BitVec 32 := 224#32
  let v3653 : BitVec 32 := Scalar.addi v3652 c224_i32_1236
  v3653
def k0_mult118 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1246 : BitVec 32 := 512#32
  let v3684 : BitVec 32 := Scalar.muli arg13 c512_i32_1246
  let c232_i32_1247 : BitVec 32 := 232#32
  let v3685 : BitVec 32 := Scalar.addi v3684 c232_i32_1247
  v3685
def k0_mult119 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1257 : BitVec 32 := 512#32
  let v3716 : BitVec 32 := Scalar.muli arg13 c512_i32_1257
  let c240_i32_1258 : BitVec 32 := 240#32
  let v3717 : BitVec 32 := Scalar.addi v3716 c240_i32_1258
  v3717
def k0_mult120 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1268 : BitVec 32 := 512#32
  let v3748 : BitVec 32 := Scalar.muli arg13 c512_i32_1268
  let c248_i32_1269 : BitVec 32 := 248#32
  let v3749 : BitVec 32 := Scalar.addi v3748 c248_i32_1269
  v3749
def k0_mult121 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1275 : BitVec 32 := 512#32
  let v3761 : BitVec 32 := Scalar.muli arg13 c512_i32_1275
  let c256_i32_1276 : BitVec 32 := 256#32
  let v3762 : BitVec 32 := Scalar.addi v3761 c256_i32_1276
  v3762
def k0_mult122 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1289 : BitVec 32 := 512#32
  let v3805 : BitVec 32 := Scalar.muli arg13 c512_i32_1289
  let c256_i32_1290 : BitVec 32 := 256#32
  let v3806 : BitVec 32 := Scalar.addi v3805 c256_i32_1290
  v3806
def k0_mult123 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1300 : BitVec 32 := 512#32
  let v3837 : BitVec 32 := Scalar.muli arg13 c512_i32_1300
  let c264_i32_1301 : BitVec 32 := 264#32
  let v3838 : BitVec 32 := Scalar.addi v3837 c264_i32_1301
  v3838
def k0_mult124 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1311 : BitVec 32 := 512#32
  let v3869 : BitVec 32 := Scalar.muli arg13 c512_i32_1311
  let c272_i32_1312 : BitVec 32 := 272#32
  let v3870 : BitVec 32 := Scalar.addi v3869 c272_i32_1312
  v3870
def k0_mult125 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1322 : BitVec 32 := 512#32
  let v3901 : BitVec 32 := Scalar.muli arg13 c512_i32_1322
  let c280_i32_1323 : BitVec 32 := 280#32
  let v3902 : BitVec 32 := Scalar.addi v3901 c280_i32_1323
  v3902
def k0_mult126 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1329 : BitVec 32 := 512#32
  let v3914 : BitVec 32 := Scalar.muli arg13 c512_i32_1329
  let c288_i32_1330 : BitVec 32 := 288#32
  let v3915 : BitVec 32 := Scalar.addi v3914 c288_i32_1330
  v3915
def k0_mult127 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1343 : BitVec 32 := 512#32
  let v3958 : BitVec 32 := Scalar.muli arg13 c512_i32_1343
  let c288_i32_1344 : BitVec 32 := 288#32
  let v3959 : BitVec 32 := Scalar.addi v3958 c288_i32_1344
  v3959
def k0_mult128 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1354 : BitVec 32 := 512#32
  let v3990 : BitVec 32 := Scalar.muli arg13 c512_i32_1354
  let c296_i32_1355 : BitVec 32 := 296#32
  let v3991 : BitVec 32 := Scalar.addi v3990 c296_i32_1355
  v3991
def k0_mult129 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1365 : BitVec 32 := 512#32
  let v4022 : BitVec 32 := Scalar.muli arg13 c512_i32_1365
  let c304_i32_1366 : BitVec 32 := 304#32
  let v4023 : BitVec 32 := Scalar.addi v4022 c304_i32_1366
  v4023
def k0_mult130 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1376 : BitVec 32 := 512#32
  let v4054 : BitVec 32 := Scalar.muli arg13 c512_i32_1376
  let c312_i32_1377 : BitVec 32 := 312#32
  let v4055 : BitVec 32 := Scalar.addi v4054 c312_i32_1377
  v4055
def k0_mult131 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1383 : BitVec 32 := 512#32
  let v4067 : BitVec 32 := Scalar.muli arg13 c512_i32_1383
  let c320_i32_1384 : BitVec 32 := 320#32
  let v4068 : BitVec 32 := Scalar.addi v4067 c320_i32_1384
  v4068
def k0_mult132 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1397 : BitVec 32 := 512#32
  let v4111 : BitVec 32 := Scalar.muli arg13 c512_i32_1397
  let c320_i32_1398 : BitVec 32 := 320#32
  let v4112 : BitVec 32 := Scalar.addi v4111 c320_i32_1398
  v4112
def k0_mult133 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1408 : BitVec 32 := 512#32
  let v4143 : BitVec 32 := Scalar.muli arg13 c512_i32_1408
  let c328_i32_1409 : BitVec 32 := 328#32
  let v4144 : BitVec 32 := Scalar.addi v4143 c328_i32_1409
  v4144
def k0_mult134 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1419 : BitVec 32 := 512#32
  let v4175 : BitVec 32 := Scalar.muli arg13 c512_i32_1419
  let c336_i32_1420 : BitVec 32 := 336#32
  let v4176 : BitVec 32 := Scalar.addi v4175 c336_i32_1420
  v4176
def k0_mult135 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1430 : BitVec 32 := 512#32
  let v4207 : BitVec 32 := Scalar.muli arg13 c512_i32_1430
  let c344_i32_1431 : BitVec 32 := 344#32
  let v4208 : BitVec 32 := Scalar.addi v4207 c344_i32_1431
  v4208
def k0_mult136 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1437 : BitVec 32 := 512#32
  let v4220 : BitVec 32 := Scalar.muli arg13 c512_i32_1437
  let c352_i32_1438 : BitVec 32 := 352#32
  let v4221 : BitVec 32 := Scalar.addi v4220 c352_i32_1438
  v4221
def k0_mult137 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1451 : BitVec 32 := 512#32
  let v4264 : BitVec 32 := Scalar.muli arg13 c512_i32_1451
  let c352_i32_1452 : BitVec 32 := 352#32
  let v4265 : BitVec 32 := Scalar.addi v4264 c352_i32_1452
  v4265
def k0_mult138 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1462 : BitVec 32 := 512#32
  let v4296 : BitVec 32 := Scalar.muli arg13 c512_i32_1462
  let c360_i32_1463 : BitVec 32 := 360#32
  let v4297 : BitVec 32 := Scalar.addi v4296 c360_i32_1463
  v4297
def k0_mult139 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1473 : BitVec 32 := 512#32
  let v4328 : BitVec 32 := Scalar.muli arg13 c512_i32_1473
  let c368_i32_1474 : BitVec 32 := 368#32
  let v4329 : BitVec 32 := Scalar.addi v4328 c368_i32_1474
  v4329
def k0_mult140 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1484 : BitVec 32 := 512#32
  let v4360 : BitVec 32 := Scalar.muli arg13 c512_i32_1484
  let c376_i32_1485 : BitVec 32 := 376#32
  let v4361 : BitVec 32 := Scalar.addi v4360 c376_i32_1485
  v4361
def k0_mult141 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1491 : BitVec 32 := 512#32
  let v4373 : BitVec 32 := Scalar.muli arg13 c512_i32_1491
  let c384_i32_1492 : BitVec 32 := 384#32
  let v4374 : BitVec 32 := Scalar.addi v4373 c384_i32_1492
  v4374
def k0_mult142 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1505 : BitVec 32 := 512#32
  let v4417 : BitVec 32 := Scalar.muli arg13 c512_i32_1505
  let c384_i32_1506 : BitVec 32 := 384#32
  let v4418 : BitVec 32 := Scalar.addi v4417 c384_i32_1506
  v4418
def k0_mult143 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1516 : BitVec 32 := 512#32
  let v4449 : BitVec 32 := Scalar.muli arg13 c512_i32_1516
  let c392_i32_1517 : BitVec 32 := 392#32
  let v4450 : BitVec 32 := Scalar.addi v4449 c392_i32_1517
  v4450
def k0_mult144 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1527 : BitVec 32 := 512#32
  let v4481 : BitVec 32 := Scalar.muli arg13 c512_i32_1527
  let c400_i32_1528 : BitVec 32 := 400#32
  let v4482 : BitVec 32 := Scalar.addi v4481 c400_i32_1528
  v4482
def k0_mult145 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1538 : BitVec 32 := 512#32
  let v4513 : BitVec 32 := Scalar.muli arg13 c512_i32_1538
  let c408_i32_1539 : BitVec 32 := 408#32
  let v4514 : BitVec 32 := Scalar.addi v4513 c408_i32_1539
  v4514
def k0_mult146 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1545 : BitVec 32 := 512#32
  let v4526 : BitVec 32 := Scalar.muli arg13 c512_i32_1545
  let c416_i32_1546 : BitVec 32 := 416#32
  let v4527 : BitVec 32 := Scalar.addi v4526 c416_i32_1546
  v4527
def k0_mult147 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1559 : BitVec 32 := 512#32
  let v4570 : BitVec 32 := Scalar.muli arg13 c512_i32_1559
  let c416_i32_1560 : BitVec 32 := 416#32
  let v4571 : BitVec 32 := Scalar.addi v4570 c416_i32_1560
  v4571
def k0_mult148 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1570 : BitVec 32 := 512#32
  let v4602 : BitVec 32 := Scalar.muli arg13 c512_i32_1570
  let c424_i32_1571 : BitVec 32 := 424#32
  let v4603 : BitVec 32 := Scalar.addi v4602 c424_i32_1571
  v4603
def k0_mult149 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1581 : BitVec 32 := 512#32
  let v4634 : BitVec 32 := Scalar.muli arg13 c512_i32_1581
  let c432_i32_1582 : BitVec 32 := 432#32
  let v4635 : BitVec 32 := Scalar.addi v4634 c432_i32_1582
  v4635
def k0_mult150 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1592 : BitVec 32 := 512#32
  let v4666 : BitVec 32 := Scalar.muli arg13 c512_i32_1592
  let c440_i32_1593 : BitVec 32 := 440#32
  let v4667 : BitVec 32 := Scalar.addi v4666 c440_i32_1593
  v4667
def k0_mult151 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1599 : BitVec 32 := 512#32
  let v4679 : BitVec 32 := Scalar.muli arg13 c512_i32_1599
  let c448_i32_1600 : BitVec 32 := 448#32
  let v4680 : BitVec 32 := Scalar.addi v4679 c448_i32_1600
  v4680
def k0_mult152 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1613 : BitVec 32 := 512#32
  let v4723 : BitVec 32 := Scalar.muli arg13 c512_i32_1613
  let c448_i32_1614 : BitVec 32 := 448#32
  let v4724 : BitVec 32 := Scalar.addi v4723 c448_i32_1614
  v4724
def k0_mult153 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1624 : BitVec 32 := 512#32
  let v4755 : BitVec 32 := Scalar.muli arg13 c512_i32_1624
  let c456_i32_1625 : BitVec 32 := 456#32
  let v4756 : BitVec 32 := Scalar.addi v4755 c456_i32_1625
  v4756
def k0_mult154 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1635 : BitVec 32 := 512#32
  let v4787 : BitVec 32 := Scalar.muli arg13 c512_i32_1635
  let c464_i32_1636 : BitVec 32 := 464#32
  let v4788 : BitVec 32 := Scalar.addi v4787 c464_i32_1636
  v4788
def k0_mult155 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1646 : BitVec 32 := 512#32
  let v4819 : BitVec 32 := Scalar.muli arg13 c512_i32_1646
  let c472_i32_1647 : BitVec 32 := 472#32
  let v4820 : BitVec 32 := Scalar.addi v4819 c472_i32_1647
  v4820
def k0_mult156 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1653 : BitVec 32 := 512#32
  let v4832 : BitVec 32 := Scalar.muli arg13 c512_i32_1653
  let c480_i32_1654 : BitVec 32 := 480#32
  let v4833 : BitVec 32 := Scalar.addi v4832 c480_i32_1654
  v4833
def k0_mult157 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1667 : BitVec 32 := 512#32
  let v4876 : BitVec 32 := Scalar.muli arg13 c512_i32_1667
  let c480_i32_1668 : BitVec 32 := 480#32
  let v4877 : BitVec 32 := Scalar.addi v4876 c480_i32_1668
  v4877
def k0_mult158 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1678 : BitVec 32 := 512#32
  let v4908 : BitVec 32 := Scalar.muli arg13 c512_i32_1678
  let c488_i32_1679 : BitVec 32 := 488#32
  let v4909 : BitVec 32 := Scalar.addi v4908 c488_i32_1679
  v4909
def k0_mult159 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1689 : BitVec 32 := 512#32
  let v4940 : BitVec 32 := Scalar.muli arg13 c512_i32_1689
  let c496_i32_1690 : BitVec 32 := 496#32
  let v4941 : BitVec 32 := Scalar.addi v4940 c496_i32_1690
  v4941
def k0_mult160 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32_1700 : BitVec 32 := 512#32
  let v4972 : BitVec 32 := Scalar.muli arg13 c512_i32_1700
  let c504_i32_1701 : BitVec 32 := 504#32
  let v4973 : BitVec 32 := Scalar.addi v4972 c504_i32_1701
  v4973
def k0_mult161 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v4985 : BitVec 32 := Scalar.muli arg13 c1024_i32
  v4985
def k0_off6 (k0_t1 : Fin k0_t1_loop.trips) : Fin 2 → Nat :=
  let c0_1705 : Index := 0#32
  let c0_i32 : BitVec 32 := 0#32
  let c1_i32 : BitVec 32 := 1#32
  let arg13 : BitVec 32 := Scf.iv c0_i32 c1_i32 k0_t1
  let c1024_i32 : BitVec 32 := 1024#32
  let v4985 : BitVec 32 := Scalar.muli arg13 c1024_i32
  let v4986 : BitVec 32 := v4985
  let v4987 : Index := Scalar.indexCast v4986
  ![0, v4987.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3584x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S448x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x3584x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x7168 : Shape := ⟨2, ![256, 7168]⟩
abbrev S3584x4608 : Shape := ⟨2, ![3584, 4608]⟩
abbrev S448x4608 : Shape := ⟨2, ![448, 4608]⟩
abbrev S36x3584x128 : Shape := ⟨3, ![36, 3584, 128]⟩
abbrev S_ : Shape := ⟨0, ![]⟩
abbrev S448x8x4608 : Shape := ⟨3, ![448, 8, 4608]⟩
abbrev S448x1x4608 : Shape := ⟨3, ![448, 1, 4608]⟩
abbrev S3584x36x128 : Shape := ⟨3, ![3584, 36, 128]⟩
abbrev S256x3584 : Shape := ⟨2, ![256, 3584]⟩
abbrev S256x4608 : Shape := ⟨2, ![256, 4608]⟩

abbrev nBuf : Space → Nat
  | .hbm => 57
  | .vmem => 0
  | .smem => 0
  | _ => 0

abbrev bufTy : (tb : Table) → Fin (tcTables nBuf tb) → BufTy
  | .hbm, ⟨0, _⟩ => ⟨S256x7168, .bf16⟩
  | .hbm, ⟨1, _⟩ => ⟨S3584x4608, .i8⟩
  | .hbm, ⟨2, _⟩ => ⟨S448x4608, .bf16⟩
  | .hbm, ⟨3, _⟩ => ⟨S448x4608, .i8⟩
  | .hbm, ⟨4, _⟩ => ⟨S36x3584x128, .i32⟩
  | .hbm, ⟨5, _⟩ => ⟨S3584x4608, .i32⟩
  | .hbm, ⟨6, _⟩ => ⟨S_, .i32⟩
  | .hbm, ⟨7, _⟩ => ⟨S3584x4608, .i32⟩
  | .hbm, ⟨8, _⟩ => ⟨S3584x4608, .i32⟩
  | .hbm, ⟨9, _⟩ => ⟨S3584x4608, .bf16⟩
  | .hbm, ⟨10, _⟩ => ⟨S448x8x4608, .bf16⟩
  | .hbm, ⟨11, _⟩ => ⟨S448x4608, .i32⟩
  | .hbm, ⟨12, _⟩ => ⟨S448x4608, .bf16⟩
  | .hbm, ⟨13, _⟩ => ⟨S448x1x4608, .bf16⟩
  | .hbm, ⟨14, _⟩ => ⟨S448x1x4608, .bf16⟩
  | .hbm, ⟨15, _⟩ => ⟨S448x8x4608, .bf16⟩
  | .hbm, ⟨16, _⟩ => ⟨S448x8x4608, .bf16⟩
  | .hbm, ⟨17, _⟩ => ⟨S448x8x4608, .bf16⟩
  | .hbm, ⟨18, _⟩ => ⟨S448x8x4608, .bf16⟩
  | .hbm, ⟨19, _⟩ => ⟨S3584x4608, .bf16⟩
  | .hbm, ⟨20, _⟩ => ⟨S_, .i32⟩
  | .hbm, ⟨21, _⟩ => ⟨S3584x4608, .i32⟩
  | .hbm, ⟨22, _⟩ => ⟨S3584x4608, .i32⟩
  | .hbm, ⟨23, _⟩ => ⟨S3584x4608, .bf16⟩
  | .hbm, ⟨24, _⟩ => ⟨S448x8x4608, .bf16⟩
  | .hbm, ⟨25, _⟩ => ⟨S448x4608, .i32⟩
  | .hbm, ⟨26, _⟩ => ⟨S448x4608, .bf16⟩
  | .hbm, ⟨27, _⟩ => ⟨S448x1x4608, .bf16⟩
  | .hbm, ⟨28, _⟩ => ⟨S448x1x4608, .bf16⟩
  | .hbm, ⟨29, _⟩ => ⟨S448x8x4608, .bf16⟩
  | .hbm, ⟨30, _⟩ => ⟨S448x8x4608, .bf16⟩
  | .hbm, ⟨31, _⟩ => ⟨S448x8x4608, .bf16⟩
  | .hbm, ⟨32, _⟩ => ⟨S448x8x4608, .bf16⟩
  | .hbm, ⟨33, _⟩ => ⟨S3584x4608, .bf16⟩
  | .hbm, ⟨34, _⟩ => ⟨S3584x36x128, .i32⟩
  | .hbm, ⟨35, _⟩ => ⟨S3584x4608, .i32⟩
  | .hbm, ⟨36, _⟩ => ⟨S3584x4608, .i16⟩
  | .hbm, ⟨37, _⟩ => ⟨S_, .i16⟩
  | .hbm, ⟨38, _⟩ => ⟨S3584x4608, .i16⟩
  | .hbm, ⟨39, _⟩ => ⟨S3584x4608, .i1⟩
  | .hbm, ⟨40, _⟩ => ⟨S3584x4608, .bf16⟩
  | .hbm, ⟨41, _⟩ => ⟨S3584x4608, .bf16⟩
  | .hbm, ⟨42, _⟩ => ⟨S_, .i32⟩
  | .hbm, ⟨43, _⟩ => ⟨S3584x4608, .i32⟩
  | .hbm, ⟨44, _⟩ => ⟨S3584x4608, .i32⟩
  | .hbm, ⟨45, _⟩ => ⟨S3584x4608, .i16⟩
  | .hbm, ⟨46, _⟩ => ⟨S_, .i16⟩
  | .hbm, ⟨47, _⟩ => ⟨S3584x4608, .i16⟩
  | .hbm, ⟨48, _⟩ => ⟨S3584x4608, .i1⟩
  | .hbm, ⟨49, _⟩ => ⟨S3584x4608, .bf16⟩
  | .hbm, ⟨50, _⟩ => ⟨S3584x4608, .bf16⟩
  | .hbm, ⟨51, _⟩ => ⟨S256x3584, .bf16⟩
  | .hbm, ⟨52, _⟩ => ⟨S256x4608, .f32⟩
  | .hbm, ⟨53, _⟩ => ⟨S256x3584, .bf16⟩
  | .hbm, ⟨54, _⟩ => ⟨S256x4608, .f32⟩
  | .hbm, ⟨55, _⟩ => ⟨S256x4608, .f32⟩
  | .hbm, ⟨56, _⟩ => ⟨S256x4608, .bf16⟩
  | _, _ => ⟨S256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.Word.lean ====
/- The 4-bit codes of the packed weight: what one code is in its byte, what the kernel's word of four bytes makes of
   it, and what the reference's masks and shifts of a byte make of it. Words and numbers only, no array. -/
module

public import Idealize.ShloMosaic.Lib.BitcastFour
public import Idealize.ShloMosaic.PureOps.Ideal.Laws

@[expose] public section

namespace Cert.Word

open Idealize.ShloMosaic

/-- The 4-bit code in the low (`h = 0`) or the high (`h = 1`) half of a byte. -/
def code (b : BitVec 8) (h : Nat) : Nat := (b.extractLsb' (4 * h) 4).toNat

/-- Field `p` of a word moved to the top and shifted back with its sign is the field widened with its sign. -/
theorem shift_field (W : BitVec 32) (p : Nat) (hp : p < 8) :
    (W <<< (28 - 4 * p)).sshiftRight 28 = (W.extractLsb' (4 * p) 4).signExtend 32 := by
  apply BitVec.eq_of_getLsbD_eq
  intro i hi
  have hcases : p = 0 ∨ p = 1 ∨ p = 2 ∨ p = 3 ∨ p = 4 ∨ p = 5 ∨ p = 6 ∨ p = 7 := by omega
  rw [BitVec.getLsbD_sshiftRight, BitVec.getLsbD_signExtend, BitVec.msb_eq_getLsbD_last, BitVec.msb_eq_getLsbD_last]
  simp only [BitVec.getLsbD_shiftLeft, BitVec.getLsbD_extractLsb']
  by_cases h : i < 4
  · simp only [show ¬ 32 ≤ i by omega, show 28 + i < 32 by omega, show ¬ 28 + i < 28 - 4 * p by omega, h, hi, if_true,
      decide_true, decide_false, Bool.not_false, Bool.true_and, Bool.and_true]
    congr 1; omega
  · simp only [show ¬ 32 ≤ i by omega, show ¬ 28 + i < 32 by omega, h, hi, if_false,
      decide_true, decide_false, Bool.not_false, Bool.true_and, Bool.and_true]
    simp only [show ¬ 32 - 1 < 28 - 4 * p by omega, decide_false, Bool.not_false, Bool.true_and, Bool.and_true]
    simp
    congr 1; omega

/-- A field whose top bit is flipped, read with its sign, is the code less eight. -/
theorem flip_toInt : ∀ x : BitVec 4, ((x ^^^ 8#4).signExtend 32).toInt = (x.toNat : Int) - 8 := by decide

/-- The kernel's masked word: each of its fields is the field with its top bit flipped. -/
theorem extract_xor (W : BitVec 32) (p : Nat) (hp : p < 8) :
    (W ^^^ 2290649224#32).extractLsb' (4 * p) 4 = W.extractLsb' (4 * p) 4 ^^^ 8#4 := by
  have hm : ∀ p : Fin 8, (2290649224#32).extractLsb' (4 * p.val) 4 = 8#4 := by decide
  have e := hm ⟨p, hp⟩
  rw [← e]
  apply BitVec.eq_of_getLsbD_eq
  intro i hi
  simp only [BitVec.getLsbD_extractLsb', BitVec.getLsbD_xor, hi, decide_true, Bool.true_and]

/-- What the kernel makes of field `p` of a word. -/
theorem kernel_field (W : BitVec 32) (p : Nat) (hp : p < 8) :
    (((W ^^^ 2290649224#32) <<< (28 - 4 * p)).sshiftRight 28).toInt = ((W.extractLsb' (4 * p) 4).toNat : Int) - 8 := by
  rw [shift_field _ p hp, extract_xor _ p hp, flip_toInt]

/-- Field `p` of a word of four bytes is a half of the byte it lies in. -/
theorem extract_word (W : BitVec 32) (b : BitVec 8) (p : Nat)
    (h : ∀ q, q < 4 → W.getLsbD (4 * p + q) = b.getLsbD ((4 * p + q) % 8)) :
    (W.extractLsb' (4 * p) 4).toNat = code b (p % 2) := by
  unfold code
  congr 1
  apply BitVec.eq_of_getLsbD_eq
  intro i hi
  simp only [BitVec.getLsbD_extractLsb', hi, decide_true, Bool.true_and]
  rw [h i hi]
  congr 1; omega

/-- The reference's low code: the byte widened with zeros and masked. -/
theorem low_code : ∀ b : BitVec 8, ((b.setWidth 32) &&& 15#32).toInt = (code b 0 : Int) := by decide +kernel

/-- The reference's high code: the byte widened with zeros and shifted. -/
theorem high_code : ∀ b : BitVec 8, ((b.setWidth 32).sshiftRight 4).toInt = (code b 1 : Int) := by decide +kernel

/-- A zero point below 128 read with its sign and read with zeros are one number. -/
theorem zero_point : ∀ b : BitVec 8, (b.setWidth 32).slt 128#32 = true → (b.setWidth 32).toInt = b.toInt := by decide +kernel

/-- The difference of the two values each less eight is the difference of the two values. -/
theorem sub_eight (a b : Int) : (((a - 8 : Int) : ℝ) : EReal) - (((b : ℝ) : EReal) - ((8 : ℝ) : EReal)) = ((a : ℝ) : EReal) - ((b : ℝ) : EReal) := by
  rw [← EReal.coe_sub, ← EReal.coe_sub, ← EReal.coe_sub]
  congr 1; push_cast; ring

end Cert.Word

end
-- ==== Proof.Tile.lean ====
/- One tile of the weight, 16 rows of 128 columns, as the kernel makes it from what it loads: its elements. -/
module

public import proofs.«01_k».proof.Proof.Word
public import proofs.«01_k».proof.Proof.Gen.KernelIdeal.Skeleton
public import Idealize.ShloMosaic.Lib.Pipeline.ValueKit
public import Idealize.ShloMosaic.Lib.BitcastPair
public import Idealize.ShloMosaic.Lib.Pointwise

@[expose] public section

set_option maxRecDepth 65536

noncomputable section

namespace Cert.Tile

open Idealize.ShloMosaic Idealize.SL.Sem Cert.KernelIdeal Cert.KernelIdeal.Gen Cert.Word

variable {F : FTy → Type} [FloatOps F]

/-- The 16-bit halves of the overlay words of one tile, half after half down the rows. -/
def halves (o : Vec F S1x8x128 .i32) : IVec S16x128 16 :=
  bitcast S16x128 16 (shapeCast S8x128 o shapeCasts_S1x8x128_S8x128) bitcasts_S8x128_w32_S16x128_w16

theorem slices (t : Fin 4) : S64x128.Slices ![16 * t.val, 0] S16x128 := by
  revert t; decide

/-- One tile: 16 of the 64 rows of codes less the zero point, times the scale; an outlier in its place if there is one. -/
def tile (t : Fin 4) (w : Vec F S32x128 .i8) (z s : Vec F S1x1x2x128 .bf16) (o : Vec F S1x8x128 .i32) :
    FVec F S16x128 .bf16 :=
  select (cmpi .ne (halves (F := F) o) (broadcast S16x128 65535#16)) (bitcastToFloat .bf16 (halves (F := F) o))
    (mulf (subf (extractStridedSlice S16x128 ![16 * t.val, 0] (k0_pay1 (F := F) w) (slices t)) (k0_pay2 z)) (k0_pay2 s))

/-- The bits the kernel has at row `r`, lane `l`. -/
theorem word_shape (x : IVec S8x128 32) (r : Fin 64) (l : Fin 128) :
    shapeCast S64x128 (broadcastTo S8x8x128 (shapeCast S8x1x128 (shapeCast S8x1x128 x shapeCasts_S8x128_S8x1x128)
      shapeCasts_S8x1x128_S8x1x128) broadcasts_S8x1x128_S8x8x128) shapeCasts_S8x8x128_S64x128 (ix2 r l)
      = x (ix2 (⟨r.val / 8, by omega⟩ : Fin 8) l) := by
  pointwise

theorem shift_amount : ∀ r : Fin 64,
    (IntOp.subi (28#32) (IntOp.muli (4#32) (IntOp.andi (BitVec.ofNat 32 r.val) 7#32))).toNat = 28 - 4 * (r.val % 8) := by
  decide

/-- The codes of a block of bytes, less eight: row `r` is half `r % 2` of byte row `r / 2`. -/
theorem nibbles (w : Vec Ideal S32x128 .i8) (r : Fin 64) (l : Fin 128) :
    k0_pay1 (F := Ideal) w (ix2 r l)
      = (((((code (w (ix2 (⟨r.val / 2, by omega⟩ : Fin 32) l)) (r.val % 2) : Nat) : Int) - 8 : Int) : ℝ) : EReal) := by
  unfold k0_pay1
  pointwise
  have hs := shift_amount r
  show (((IntOp.shrsi ArithUnit.vector (IntOp.shli ArithUnit.vector (IntOp.xori _ _) _) _).toInt : ℝ) : EReal) = _
  congr 2
  have hp : r.val % 8 < 8 := by omega
  unfold IntOp.shrsi IntOp.shli IntOp.xori
  rw [if_pos (show (28#32).toNat < 32 by decide), if_pos (show (IntOp.subi (28#32) (IntOp.muli (4#32) (IntOp.andi (BitVec.ofNat 32 r.val) 7#32))).toNat < 32 by rw [hs]; omega)]
  rw [BitVec.shiftLeft_eq', hs]
  show ((_ : BitVec 32).sshiftRight 28).toInt = _
  rw [kernel_field _ _ hp, extract_word _ (w (ix2 (⟨r.val / 2, by omega⟩ : Fin 32) l)) (r.val % 8) ?_]
  · rw [show r.val % 8 % 2 = r.val % 2 by omega]
  · intro q hq
    exact bitcast_8_32_getLsbD_ix2 w _ (⟨r.val / 8, by omega⟩ : Fin 8) l (4 * (r.val % 8) + q) (by omega)
      (⟨r.val / 2, by omega⟩ : Fin 32) (by show r.val / 2 = 4 * (r.val / 8) + (4 * (r.val % 8) + q) / 8; omega)

/-- A pair of rows repeated down a tile: row `j` of the tile is row `j % 2` of the pair. -/
theorem spread (v : Vec Ideal S1x1x2x128 .bf16) (j : Fin 16) (l : Fin 128) :
    k0_pay2 (F := Ideal) v (ix2 j l) = v (ix4 0 0 (⟨j.val % 2, by omega⟩ : Fin 2) l) := by
  unfold k0_pay2
  pointwise
  rcases Nat.mod_two_eq_zero_or_one j.val with h | h <;> simp [h]

/-- The overlay's half of row `j`: half `j % 2` of word row `j / 2`. -/
theorem halves_at (o : Vec F S1x8x128 .i32) (j : Fin 16) (l : Fin 128) :
    halves (F := F) o (ix2 j l) = (o (ix3 0 (⟨j.val / 2, by omega⟩ : Fin 8) l)).extractLsb' (16 * (j.val % 2)) 16 := by
  unfold halves
  rw [bitcast_32_16]
  have hrow : S16x128.row (ix2 j l) = j.val := rfl
  have e : ∀ i : S8x128.Idx, (i 0).val = j.val / 2 → (i 1).val = l.val →
      shapeCast S8x128 o shapeCasts_S1x8x128_S8x128 i = o (ix3 0 (⟨j.val / 2, by omega⟩ : Fin 8) l) := by
    intro i h0 h1
    have : i = ix2 (⟨j.val / 2, by omega⟩ : Fin 8) l := by
      funext a
      match a with
      | ⟨0, _⟩ => exact Fin.ext h0
      | ⟨1, _⟩ => exact Fin.ext h1
    rw [this]
    pointwise
  show BitVec.extractLsb' (16 * (j.val % 2)) 16 _ = _
  exact congrArg _ (e _ (Shape.Bitcasts.srcIdx_row _ _ _ _ ⟨0, Nat.zero_lt_two⟩ rfl)
    (Shape.Bitcasts.srcIdx_other _ _ _ _ ⟨1, Nat.one_lt_two⟩ (by show ¬ 1 + 2 = 2; omega)))

/-- One element of the weight: the code `c` of its byte's half, the zero point the kernel keeps less eight, the scale,
    and the overlay's bits. -/
def elt (c : Nat) (z s : EReal) (bits : BitVec 16) : EReal :=
  if bits = 65535#16 then ((((c : Int) - 8 : Int) : ℝ) - z) * s else FloatOps.ofBits (F := Ideal) .bf16 bits

theorem tile_at (t : Fin 4) (w : Vec Ideal S32x128 .i8) (z s : Vec Ideal S1x1x2x128 .bf16) (o : Vec Ideal S1x8x128 .i32)
    (j : Fin 16) (l : Fin 128) :
    tile (F := Ideal) t w z s o (ix2 j l)
      = elt (code (w (ix2 (⟨8 * t.val + j.val / 2, by omega⟩ : Fin 32) l)) (j.val % 2))
          (z (ix4 0 0 (⟨j.val % 2, by omega⟩ : Fin 2) l)) (s (ix4 0 0 (⟨j.val % 2, by omega⟩ : Fin 2) l))
          ((o (ix3 0 (⟨j.val / 2, by omega⟩ : Fin 8) l)).extractLsb' (16 * (j.val % 2)) 16) := by
  have hsl : extractStridedSlice S16x128 ![16 * t.val, 0] (k0_pay1 (F := Ideal) w) (slices t) (ix2 j l)
      = k0_pay1 (F := Ideal) w (ix2 (⟨16 * t.val + j.val, by omega⟩ : Fin 64) l) := by
    refine extractStridedSlice_apply _ _ _ _ _ fun a => ?_
    match a with
    | ⟨0, _⟩ => rfl
    | ⟨1, _⟩ => show l.val = 0 + l.val; omega
  unfold tile elt
  rw [← halves_at (F := Ideal) o j l]
  show (if IntOp.cmpi .ne (halves (F := Ideal) o (ix2 j l)) 65535#16 = 1#1 then
      FloatOps.ofBits (F := Ideal) .bf16 (halves (F := Ideal) o (ix2 j l)) else
      (extractStridedSlice S16x128 ![16 * t.val, 0] (k0_pay1 (F := Ideal) w) (slices t) (ix2 j l) - k0_pay2 (F := Ideal) z (ix2 j l))
        * k0_pay2 (F := Ideal) s (ix2 j l)) = _
  rw [hsl, nibbles, spread, spread]
  have e1 : (16 * t.val + j.val) / 2 = 8 * t.val + j.val / 2 := by omega
  have e2 : (16 * t.val + j.val) % 2 = j.val % 2 := by omega
  simp only [e1, e2]
  by_cases h : halves (F := Ideal) o (ix2 j l) = 65535#16
  · rw [if_pos h, if_neg (by rw [h]; decide)]
  · rw [if_neg h, if_pos]
    show BitVec.ofBool (halves (F := Ideal) o (ix2 j l) != 65535#16) = 1#1
    rw [bne_iff_ne.mpr h]; rfl

end Cert.Tile

end
-- ==== Proof.Trip.lean ====
/- What one trip of the kernel's loop adds to the accumulator: the two columns of 64 tiles it puts together, and the
   product it adds. -/
module

public import proofs.«01_k».proof.Proof.Tile
public import proofs.«01_k».proof.Proof.Gen.KernelIdeal.Loops

@[expose] public section

set_option maxRecDepth 65536

noncomputable section

namespace Cert.Trip

open Idealize.ShloMosaic Idealize.SL.Sem Cert.KernelIdeal Cert.KernelIdeal.Gen Cert.Tile

variable {F : FTy → Type} [FloatOps F]

/-- A list of 64 values, value by value. -/
theorem ofFn64 {β : Type} (f : Fin 64 → β) : List.ofFn f = [f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31, f 32, f 33, f 34, f 35, f 36, f 37, f 38, f 39, f 40, f 41, f 42, f 43, f 44, f 45, f 46, f 47, f 48, f 49, f 50, f 51, f 52, f 53, f 54, f 55, f 56, f 57, f 58, f 59, f 60, f 61, f 62, f 63] := rfl

/-- The block of 64 rows that tile `n` of a column lies in. -/
def blk (n : Fin 64) : Fin 16 := ⟨n.val / 4, by omega⟩

/-- The tile's place in its block. -/
def pos (n : Fin 64) : Fin 4 := ⟨n.val % 4, by omega⟩

theorem concatenates (f : Fin 64 → FVec F S16x128 .bf16) :
    Shape.Concatenates ((List.ofFn fun n : Fin 64 => (⟨S16x128, f n⟩ : (s : Shape) × (s.Idx → F .bf16))).map (·.1)) S1024x128 0 := by
  rw [ofFn64]
  exact (by decide : Shape.Concatenates (List.replicate 64 S16x128) S1024x128 0)

/-- A column of 64 tiles, one under the other. -/
def column (W : Fin 16 → Vec F S32x128 .i8) (Z S : Fin 16 → Fin 4 → Vec F S1x1x2x128 .bf16) (O : Fin 64 → Vec F S1x8x128 .i32) :
    FVec F S1024x128 .bf16 :=
  concatenate S1024x128 0 (List.ofFn fun n : Fin 64 =>
    (⟨S16x128, tile (pos n) (W (blk n)) (Z (blk n) (pos n)) (S (blk n) (pos n)) (O n)⟩ : (s : Shape) × (s.Idx → F .bf16)))
    (concatenates _)

/-- The first lane block's column of the trip's tiles. -/
theorem column0 (arg2 : Memref sig .tc .vmem S3584x128 .i8) (arg8 : Memref sig .tc .vmem S2x3584x128 .i32)
    (arg11 arg12 : Memref sig .tc .vmem S2x448x2x128 .bf16) (X_arg2 : BufTy.Contents (Elt F) arg2.view.ty)
    (X_arg8 : BufTy.Contents (Elt F) arg8.view.ty) (X_arg11 : BufTy.Contents (Elt F) arg11.view.ty)
    (X_arg12 : BufTy.Contents (Elt F) arg12.view.ty) (k : Fin k0_t1_loop.trips) :
    trip_k0_t1.sl.r_162 arg2 arg8 arg11 arg12 X_arg2 X_arg8 X_arg11 X_arg12 k
      = column
          (fun b => View.readAt (Elt F) arg2.view (Rect.unit (s := S3584x128) (k0_off1 k (BitVec.ofNat 32 (32 * b.val))) S32x128.size (k0_off1_inb k b)).toLoadRect X_arg2)
          (fun b t => View.readAt (Elt F) arg12.view (Rect.unit (s := S2x448x2x128) (k0_off2 k (BitVec.ofNat 32 (4 * b.val)) (BitVec.ofNat 32 t.val)) S1x1x2x128.size (k0_off2_inb k b t)).toLoadRect X_arg12)
          (fun b t => View.readAt (Elt F) arg11.view (Rect.unit (s := S2x448x2x128) (k0_off2 k (BitVec.ofNat 32 (4 * b.val)) (BitVec.ofNat 32 t.val)) S1x1x2x128.size (k0_off2_inb k b t)).toLoadRect X_arg11)
          (fun n => View.readAt (Elt F) arg8.view (Rect.unit (s := S2x3584x128) (k0_off3 k (BitVec.ofNat 32 (8 * n.val))) S1x8x128.size (k0_off3_inb k n)).toLoadRect X_arg8) := by
  unfold column
  simp only [ofFn64]
  rfl

/-- The second lane block's column. -/
theorem column1 (arg3 : Memref sig .tc .vmem S3584x128 .i8) (arg8 : Memref sig .tc .vmem S2x3584x128 .i32)
    (arg11 arg12 : Memref sig .tc .vmem S2x448x2x128 .bf16) (X_arg3 : BufTy.Contents (Elt F) arg3.view.ty)
    (X_arg8 : BufTy.Contents (Elt F) arg8.view.ty) (X_arg11 : BufTy.Contents (Elt F) arg11.view.ty)
    (X_arg12 : BufTy.Contents (Elt F) arg12.view.ty) (k : Fin k0_t1_loop.trips) :
    trip_k0_t1.sl.v4983 arg3 arg8 arg11 arg12 X_arg3 X_arg8 X_arg11 X_arg12 k
      = column
          (fun b => View.readAt (Elt F) arg3.view (Rect.unit (s := S3584x128) (k0_off1 k (BitVec.ofNat 32 (32 * b.val))) S32x128.size (k0_off1_inb k b)).toLoadRect X_arg3)
          (fun b t => View.readAt (Elt F) arg12.view (Rect.unit (s := S2x448x2x128) (k0_off4 k (BitVec.ofNat 32 (4 * b.val)) (BitVec.ofNat 32 t.val)) S1x1x2x128.size (k0_off4_inb k b t)).toLoadRect X_arg12)
          (fun b t => View.readAt (Elt F) arg11.view (Rect.unit (s := S2x448x2x128) (k0_off4 k (BitVec.ofNat 32 (4 * b.val)) (BitVec.ofNat 32 t.val)) S1x1x2x128.size (k0_off4_inb k b t)).toLoadRect X_arg11)
          (fun n => View.readAt (Elt F) arg8.view (Rect.unit (s := S2x3584x128) (k0_off5 k (BitVec.ofNat 32 (8 * n.val))) S1x8x128.size (k0_off5_inb k n)).toLoadRect X_arg8) := by
  unfold column
  simp only [ofFn64]
  rfl

/-- The one store of trip `k`: the accumulator and the product of the trip's columns of `x` by its two columns of tiles. -/
theorem trip_pieces (𝒱 : Variants) (c : Dev nD) (bd : Option 𝒱.V) (i : grid0.Coords) (arg1 : Memref sig .tc .vmem S256x7168 .bf16) (harg1 : arg1.IsWhole) (arg2 : Memref sig .tc .vmem S3584x128 .i8) (harg2 : arg2.IsWhole) (arg3 : Memref sig .tc .vmem S3584x128 .i8) (harg3 : arg3.IsWhole) (arg4 : Memref sig .tc .vmem S448x128 .bf16) (harg4 : arg4.IsWhole) (arg5 : Memref sig .tc .vmem S448x128 .bf16) (harg5 : arg5.IsWhole) (arg6 : Memref sig .tc .vmem S448x128 .i8) (harg6 : arg6.IsWhole) (arg7 : Memref sig .tc .vmem S448x128 .i8) (harg7 : arg7.IsWhole) (arg8 : Memref sig .tc .vmem S2x3584x128 .i32) (harg8 : arg8.IsWhole) (arg9 : Memref sig .tc .vmem S256x256 .bf16) (harg9 : arg9.IsWhole) (arg10 : Memref sig .tc .vmem S256x256 .f32) (harg10 : arg10.IsWhole) (arg11 : Memref sig .tc .vmem S2x448x2x128 .bf16) (harg11 : arg11.IsWhole) (arg12 : Memref sig .tc .vmem S2x448x2x128 .bf16) (harg12 : arg12.IsWhole) (X_arg1 : BufTy.Contents (Elt F) arg1.view.ty) (X_arg2 : BufTy.Contents (Elt F) arg2.view.ty) (X_arg3 : BufTy.Contents (Elt F) arg3.view.ty) (X_arg8 : BufTy.Contents (Elt F) arg8.view.ty) (X_arg11 : BufTy.Contents (Elt F) arg11.view.ty) (X_arg12 : BufTy.Contents (Elt F) arg12.view.ty) (k : Fin k0_t1_loop.trips)  (f : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg11 X_arg12 k).1 f
      = [⟨Rect.unit (s := S256x256) ![0, 0] S256x256.size inb_S256x256_S256x256_0_0, k0_pay350
          (column
          (fun b => View.readAt (Elt F) arg2.view (Rect.unit (s := S3584x128) (k0_off1 k (BitVec.ofNat 32 (32 * b.val))) S32x128.size (k0_off1_inb k b)).toLoadRect X_arg2)
          (fun b t => View.readAt (Elt F) arg12.view (Rect.unit (s := S2x448x2x128) (k0_off2 k (BitVec.ofNat 32 (4 * b.val)) (BitVec.ofNat 32 t.val)) S1x1x2x128.size (k0_off2_inb k b t)).toLoadRect X_arg12)
          (fun b t => View.readAt (Elt F) arg11.view (Rect.unit (s := S2x448x2x128) (k0_off2 k (BitVec.ofNat 32 (4 * b.val)) (BitVec.ofNat 32 t.val)) S1x1x2x128.size (k0_off2_inb k b t)).toLoadRect X_arg11)
          (fun n => View.readAt (Elt F) arg8.view (Rect.unit (s := S2x3584x128) (k0_off3 k (BitVec.ofNat 32 (8 * n.val))) S1x8x128.size (k0_off3_inb k n)).toLoadRect X_arg8))
          (column
          (fun b => View.readAt (Elt F) arg3.view (Rect.unit (s := S3584x128) (k0_off1 k (BitVec.ofNat 32 (32 * b.val))) S32x128.size (k0_off1_inb k b)).toLoadRect X_arg3)
          (fun b t => View.readAt (Elt F) arg12.view (Rect.unit (s := S2x448x2x128) (k0_off4 k (BitVec.ofNat 32 (4 * b.val)) (BitVec.ofNat 32 t.val)) S1x1x2x128.size (k0_off4_inb k b t)).toLoadRect X_arg12)
          (fun b t => View.readAt (Elt F) arg11.view (Rect.unit (s := S2x448x2x128) (k0_off4 k (BitVec.ofNat 32 (4 * b.val)) (BitVec.ofNat 32 t.val)) S1x1x2x128.size (k0_off4_inb k b t)).toLoadRect X_arg11)
          (fun n => View.readAt (Elt F) arg8.view (Rect.unit (s := S2x3584x128) (k0_off5 k (BitVec.ofNat 32 (8 * n.val))) S1x8x128.size (k0_off5_inb k n)).toLoadRect X_arg8))
          (View.readAt (Elt F) arg1.view (Rect.unit (s := S256x7168) (k0_off6 k) S256x1024.size (k0_off6_inb k)).toLoadRect X_arg1)
          (View.readAt (Elt F) arg10.view (Rect.unit (s := S256x256) ![0, 0] S256x256.size inb_S256x256_S256x256_0_0).toLoadRect f)⟩] := by
  unfold trip_k0_t1
  dsimp only
  rw [column0, column1]

/-- A column at row `r`: row `r % 16` of tile `r / 16`. -/
theorem column_at (W : Fin 16 → Vec F S32x128 .i8) (Z S : Fin 16 → Fin 4 → Vec F S1x1x2x128 .bf16) (O : Fin 64 → Vec F S1x8x128 .i32)
    (r : Fin 1024) (l : Fin 128) (n : Fin 64) (hn : n.val = r.val / 16) :
    column W Z S O (ix2 (n0 := 1024) (n1 := 128) r l : S1024x128.Idx)
      = tile (pos n) (W (blk n)) (Z (blk n) (pos n)) (S (blk n) (pos n)) (O n) (ix2 (⟨r.val % 16, by omega⟩ : Fin 16) l) := by
  unfold column
  refine concatenate_ofFn_apply (t := S1024x128) (s₁ := S16x128) (0 : Fin 2)
    (fun n => tile (pos n) (W (blk n)) (Z (blk n) (pos n)) (S (blk n) (pos n)) (O n)) _ rfl 16 rfl (ix2 (n0 := 1024) (n1 := 128) r l) n hn.symm
    (ix2 (⟨r.val % 16, by omega⟩ : Fin 16) l) rfl fun b hb => ?_
  match b with
  | ⟨0, _⟩ => exact absurd rfl hb
  | ⟨1, _⟩ => rfl

end Cert.Trip

end
-- ==== Proof.Scratch.lean ====
/- What the kernel keeps in its two scratch buffers before the loop: every row of zero points (less eight) and of scales
   of either lane block, twice, so that one load gives a pair of equal rows. -/
module

public import proofs.«01_k».proof.Proof.Tile
public import Idealize.ShloMosaic.Lib.Pipeline.ValueKit

@[expose] public section

set_option maxRecDepth 65536

noncomputable section

namespace Cert.Scratch

open Idealize.ShloMosaic Idealize.SL.Sem Cert.KernelIdeal Cert.KernelIdeal.Gen

variable {F : FTy → Type} [FloatOps F]

/-- The rows of parity `p`, each twice. -/
def dup (p : Fin 2) (v : FVec F S448x128 .bf16) : Vec F S1x224x2x128 .bf16 :=
  interleaveRows S1x224x2x128
    (shapeCast S1x224x1x128 (shapeCast S1x224x128 (rowsOfParity p S224x128 v bitcasts_S448x128_w16_S224x128_w32)
      shapeCasts_S224x128_S1x224x128) shapeCasts_S1x224x128_S1x224x1x128)
    (shapeCast S1x224x1x128 (shapeCast S1x224x128 (rowsOfParity p S224x128 v bitcasts_S448x128_w16_S224x128_w32)
      shapeCasts_S224x128_S1x224x128) shapeCasts_S1x224x128_S1x224x1x128) bitcasts_S1x224x2x128_w16_S1x224x1x128_w32

theorem dup_at (p : Fin 2) (v : FVec F S448x128 .bf16) (u : Fin 1) (g : Fin 224) (q : Fin 2) (l : Fin 128) :
    dup p v (ix4 u g q l) = v (ix2 (⟨2 * g.val + p.val, by omega⟩ : Fin 448) l) := by
  unfold dup
  pointwise
  simp

/-- The rectangle of a lane block's rows of one parity. -/
def rect00 : Rect S2x448x2x128 := ⟨⟨![0, 0, 0, 0], S1x224x2x128.size, ![1, 2, 1, 1], inb_S2x448x2x128_S1x224x2x128_0_0_0_0_s_1_2_1_1⟩, spos_1_2_1_1⟩
def rect01 : Rect S2x448x2x128 := ⟨⟨![0, 1, 0, 0], S1x224x2x128.size, ![1, 2, 1, 1], inb_S2x448x2x128_S1x224x2x128_0_1_0_0_s_1_2_1_1⟩, spos_1_2_1_1⟩
def rect10 : Rect S2x448x2x128 := ⟨⟨![1, 0, 0, 0], S1x224x2x128.size, ![1, 2, 1, 1], inb_S2x448x2x128_S1x224x2x128_1_0_0_0_s_1_2_1_1⟩, spos_1_2_1_1⟩
def rect11 : Rect S2x448x2x128 := ⟨⟨![1, 1, 0, 0], S1x224x2x128.size, ![1, 2, 1, 1], inb_S2x448x2x128_S1x224x2x128_1_1_0_0_s_1_2_1_1⟩, spos_1_2_1_1⟩

/-- The four stores that fill a scratch buffer, the last first. -/
def fills (v0 v1 : FVec F S448x128 .bf16) : List (View.Piece (Elt F) S2x448x2x128 .bf16) :=
  [⟨rect11, dup 1 v1⟩, ⟨rect10, dup 0 v1⟩, ⟨rect01, dup 1 v0⟩, ⟨rect00, dup 0 v0⟩]

/-- What they leave. -/
def filled (v0 v1 : FVec F S448x128 .bf16) : S2x448x2x128.Idx → Elt F .bf16 :=
  fun j => (if (j 0).val = 0 then v0 else v1) (ix2 (j 1) (j 3))

/-- One of the stores, against what they leave. -/
theorem piece_eq (v0 v1 : FVec F S448x128 .bf16) (p : Fin 2) (v : FVec F S448x128 .bf16) (b : Nat)
    (hv : v = if b = 0 then v0 else v1) (x : S1x224x2x128.Idx) (y : S2x448x2x128.Idx)
    (h0 : (y 0).val = b) (h1 : (y 1).val = 2 * (x 1).val + p.val) (h3 : (y 3).val = (x 3).val) :
    dup p v x = filled v0 v1 y := by
  have hx : x = ix4 (x 0) (x 1) (x 2) (x 3) := by
    funext a
    match a with
    | ⟨0, _⟩ => rfl
    | ⟨1, _⟩ => rfl
    | ⟨2, _⟩ => rfl
    | ⟨3, _⟩ => rfl
  refine (congrArg (dup p v) hx).trans ((dup_at p v (x 0) (x 1) (x 2) (x 3)).trans ?_)
  unfold filled
  rw [h0, hv]
  refine congrArg _ (funext fun a => ?_)
  match a with
  | ⟨0, _⟩ => exact Fin.ext h1.symm
  | ⟨1, _⟩ => exact Fin.ext h3.symm

/-- Every element lies in one of the four rectangles. -/
theorem cover (v0 v1 : FVec F S448x128 .bf16) (y : S2x448x2x128.Idx) : ∃ p ∈ fills v0 v1, y ∈ p.1.set := by
  have b0 : (y 0).val < 2 := (y 0).isLt
  have b1 : (y 1).val < 448 := (y 1).isLt
  have b2 : (y 2).val < 2 := (y 2).isLt
  have b3 : (y 3).val < 128 := (y 3).isLt
  have key : ∀ (r : Rect S2x448x2x128) (a b : Nat) (_ : r.off = ![a, b, 0, 0]) (_ : r.size = S1x224x2x128.size)
      (_ : r.stride = ![1, 2, 1, 1]), (y 0).val = a → (y 1).val % 2 = b → y ∈ r.set := by
    intro r a b ho hz hs ha hb
    rw [LoadRect.mem_set]
    intro i
    rw [ho, hz, hs]
    match i with
    | ⟨0, _⟩ => exact ⟨0, Nat.zero_lt_one, by show (y 0).val = a + 1 * 0; omega⟩
    | ⟨1, _⟩ => exact ⟨(y 1).val / 2, by show (y 1).val / 2 < 224; omega, by show (y 1).val = b + 2 * ((y 1).val / 2); omega⟩
    | ⟨2, _⟩ => exact ⟨(y 2).val, b2, by show (y 2).val = 0 + 1 * (y 2).val; omega⟩
    | ⟨3, _⟩ => exact ⟨(y 3).val, b3, by show (y 3).val = 0 + 1 * (y 3).val; omega⟩
  have c0 : (y 0).val = 0 ∨ (y 0).val = 1 := by omega
  have c1 : (y 1).val % 2 = 0 ∨ (y 1).val % 2 = 1 := by omega
  unfold fills
  rcases c0 with h0 | h0 <;> rcases c1 with h1 | h1
  · exact ⟨⟨rect00, dup 0 v0⟩, by simp, key rect00 0 0 rfl rfl rfl h0 h1⟩
  · exact ⟨⟨rect01, dup 1 v0⟩, by simp, key rect01 0 1 rfl rfl rfl h0 h1⟩
  · exact ⟨⟨rect10, dup 0 v1⟩, by simp, key rect10 1 0 rfl rfl rfl h0 h1⟩
  · exact ⟨⟨rect11, dup 1 v1⟩, by simp, key rect11 1 1 rfl rfl rfl h0 h1⟩

theorem canon_fills (v0 v1 : FVec F S448x128 .bf16) : View.canon (Val := Elt F) (fills v0 v1) = filled v0 v1 := by
  funext y
  refine View.canon_apply_of_pieces (Val := Elt F) (filled v0 v1) _ ?_ y (cover v0 v1 y)
  intro p hp x
  have e1 : ∀ (x : S1x224x2x128.Idx), (x 0).val = 0 := fun x => by have : (x 0).val < 1 := (x 0).isLt; omega
  have e3 : ∀ (x : S1x224x2x128.Idx), 0 + 1 * (x 3).val = (x 3).val := fun x => by omega
  unfold fills at hp
  simp only [List.mem_cons, List.not_mem_nil, or_false] at hp
  rcases hp with rfl | rfl | rfl | rfl
  · exact piece_eq v0 v1 1 v1 1 rfl x _ (congrArg (fun n => 1 + 1 * n) (e1 x)) (Nat.add_comm 1 _) (e3 x)
  · exact piece_eq v0 v1 0 v1 1 rfl x _ (congrArg (fun n => 1 + 1 * n) (e1 x)) (Nat.zero_add _) (e3 x)
  · exact piece_eq v0 v1 1 v0 0 rfl x _ (congrArg (fun n => 0 + 1 * n) (e1 x)) (Nat.add_comm 1 _) (e3 x)
  · exact piece_eq v0 v1 0 v0 0 rfl x _ (congrArg (fun n => 0 + 1 * n) (e1 x)) (Nat.zero_add _) (e3 x)

/-- The zero points the kernel keeps: the signed byte less eight. -/
theorem zeros_at (z : Vec Ideal S448x128 .i8) (i : S448x128.Idx) :
    k0_pay331 (F := Ideal) z i = (((z i).toInt : ℝ) : EReal) - ((8 : ℝ) : EReal) := by
  have h8 : FloatOps.ofBits (F := Ideal) .bf16 (0x4100#16) = ((8 : ℝ) : EReal) := by
    show Ideal.ofBits .bf16 0x4100#16 = _
    simp [Ideal.ofBits, Ideal.ieee, -EReal.coe_mul]; norm_num
  rw [← h8]
  rfl

end Cert.Scratch

end
-- ==== Proof.Weight.lean ====
/- The weight a lane block of the kernel multiplies by, element by element, and a chunk's column of tiles as 1024 rows
   of it. -/
module

public import proofs.«01_k».proof.Proof.Trip
public import proofs.«01_k».proof.Proof.Scratch
public import Idealize.ShloMosaic.Lib.MatmulPlain

@[expose] public section

set_option maxRecDepth 65536

noncomputable section

open scoped BigOperators

namespace Cert.Weight

open Idealize.ShloMosaic Idealize.SL.Sem Cert.KernelIdeal Cert.KernelIdeal.Gen Cert.Tile Cert.Word Cert.Trip

/-- Row `R`, lane `l` of the weight of one lane block: `w` its bytes, `z` and `s` its zero points and scales, `o` the
    overlay of both lane blocks, of which this is number `b`. -/
def weight (w : Vec Ideal S3584x128 .i8) (z s : FVec Ideal S448x128 .bf16) (o : Vec Ideal S2x3584x128 .i32) (b : Fin 2)
    (R : Fin 7168) (l : Fin 128) : EReal :=
  elt (code (w (ix2 (⟨R.val / 2, by omega⟩ : Fin 3584) l)) (R.val % 2))
    (z (ix2 (⟨R.val / 16, by omega⟩ : Fin 448) l)) (s (ix2 (⟨R.val / 16, by omega⟩ : Fin 448) l))
    ((o (ix3 b (⟨R.val / 2, by omega⟩ : Fin 3584) l)).extractLsb' (16 * (R.val % 2)) 16)

/-- A column made of chunk `k`'s blocks is the chunk's rows of the weight. -/
theorem column_weight (w : Vec Ideal S3584x128 .i8) (z s : FVec Ideal S448x128 .bf16) (o : Vec Ideal S2x3584x128 .i32) (b : Fin 2)
    (k : Fin 7) (W : Fin 16 → Vec Ideal S32x128 .i8) (Z S : Fin 16 → Fin 4 → Vec Ideal S1x1x2x128 .bf16)
    (O : Fin 64 → Vec Ideal S1x8x128 .i32)
    (hW : ∀ (n : Fin 16) (i : Fin 32) (l : Fin 128), W n (ix2 i l) = w (ix2 (⟨512 * k.val + 32 * n.val + i.val, by omega⟩ : Fin 3584) l))
    (hZ : ∀ (n : Fin 16) (t : Fin 4) (p : Fin 2) (l : Fin 128), Z n t (ix4 0 0 p l) = z (ix2 (⟨64 * k.val + 4 * n.val + t.val, by omega⟩ : Fin 448) l))
    (hS : ∀ (n : Fin 16) (t : Fin 4) (p : Fin 2) (l : Fin 128), S n t (ix4 0 0 p l) = s (ix2 (⟨64 * k.val + 4 * n.val + t.val, by omega⟩ : Fin 448) l))
    (hO : ∀ (n : Fin 64) (i : Fin 8) (l : Fin 128), O n (ix3 0 i l) = o (ix3 b (⟨512 * k.val + 8 * n.val + i.val, by omega⟩ : Fin 3584) l))
    (r : Fin 1024) (l : Fin 128) :
    column W Z S O (ix2 (n0 := 1024) (n1 := 128) r l : S1024x128.Idx) = weight w z s o b ⟨1024 * k.val + r.val, by omega⟩ l := by
  rw [column_at W Z S O r l ⟨r.val / 16, by omega⟩ rfl, tile_at, hW, hZ, hS, hO]
  unfold weight
  have e1 : (r.val % 16) % 2 = (1024 * k.val + r.val) % 2 := by omega
  have e2 : 512 * k.val + 32 * (r.val / 16 / 4) + (8 * (r.val / 16 % 4) + r.val % 16 / 2) = (1024 * k.val + r.val) / 2 := by omega
  have e3 : 64 * k.val + 4 * (r.val / 16 / 4) + r.val / 16 % 4 = (1024 * k.val + r.val) / 16 := by omega
  have e4 : 512 * k.val + 8 * (r.val / 16) + r.val % 16 / 2 = (1024 * k.val + r.val) / 2 := by omega
  simp only [blk, pos, e1, e2, e3, e4]

/-- A chunk's addition to the accumulator, element by element. -/
theorem chunk_at (a b : FVec Ideal S1024x128 .bf16) (x : Vec Ideal S256x1024 .bf16) (acc : Vec Ideal S256x256 .f32)
    (r c : Fin 256) (g : Fin 1024 → EReal)
    (ha : ∀ (h : c.val < 128) (q : Fin 1024), a (ix2 (n0 := 1024) (n1 := 128) q ⟨c.val, h⟩) = g q)
    (hb : ∀ (h : 128 ≤ c.val) (q : Fin 1024), b (ix2 (n0 := 1024) (n1 := 128) q ⟨c.val - 128, by omega⟩) = g q) :
    k0_pay350 (F := Ideal) a b x acc (ix2 r c) = acc (ix2 r c) + ∑ q : Fin 1024, x (ix2 r q) * g q := by
  unfold k0_pay350
  pointwise
  refine congrArg (acc (ix2 r c) + ·) (Finset.sum_congr rfl fun q _ => congrArg (x (ix2 r q) * ·) ?_)
  by_cases h : c.val < 128
  · rw [dif_pos h, ← ha h q]
  · rw [dif_neg h, ← hb (by omega) q]

end Cert.Weight

end
-- ==== Proof.Block.lean ====
/- The block a grid point leaves: the rows of `x` times the two lane blocks of the weight, over all seven chunks. -/
module

public import proofs.«01_k».proof.Proof.Weight
public import proofs.«01_k».proof.Proof.Gen.KernelIdeal.Frame
public import Idealize.ShloMosaic.Lib.VecWindow

@[expose] public section

set_option maxRecDepth 65536

noncomputable section

open scoped BigOperators

namespace Cert.Block

open Idealize.ShloMosaic Idealize.SL.Sem Cert.KernelIdeal Cert.KernelIdeal.Gen Cert.Tile Cert.Word Cert.Trip Cert.Scratch Cert.Weight

/-- Column `c` of the weight of a grid point: of its first lane block or its second. -/
def pairWeight (w0 w1 : Vec Ideal S3584x128 .i8) (s0 s1 z0 z1 : FVec Ideal S448x128 .bf16) (o : Vec Ideal S2x3584x128 .i32)
    (c : Fin 256) (R : Fin 7168) : EReal :=
  if h : c.val < 128 then weight w0 z0 s0 o 0 R ⟨c.val, h⟩ else weight w1 z1 s1 o 1 R ⟨c.val - 128, by omega⟩

/-- The product of the first `n` chunks. -/
def partialSum (x : Vec Ideal S256x7168 .bf16) (w0 w1 : Vec Ideal S3584x128 .i8) (s0 s1 z0 z1 : FVec Ideal S448x128 .bf16)
    (o : Vec Ideal S2x3584x128 .i32) (r c : Fin 256) (n : Nat) : EReal :=
  ∑ k ∈ Finset.range n, if h : k < 7 then
    ∑ q : Fin 1024, x (ix2 r (⟨1024 * k + q.val, by omega⟩ : Fin 7168)) * pairWeight w0 w1 s0 s1 z0 z1 o c ⟨1024 * k + q.val, by omega⟩ else 0

section

variable (𝒱 : Variants) (dev : Dev nD) (bd : Option 𝒱.V) (i : grid0.Coords) (arg1 : Memref sig .tc .vmem S256x7168 .bf16) (harg1 : arg1.IsWhole) (arg2 : Memref sig .tc .vmem S3584x128 .i8) (harg2 : arg2.IsWhole) (arg3 : Memref sig .tc .vmem S3584x128 .i8) (harg3 : arg3.IsWhole) (arg4 : Memref sig .tc .vmem S448x128 .bf16) (harg4 : arg4.IsWhole) (arg5 : Memref sig .tc .vmem S448x128 .bf16) (harg5 : arg5.IsWhole) (arg6 : Memref sig .tc .vmem S448x128 .i8) (harg6 : arg6.IsWhole) (arg7 : Memref sig .tc .vmem S448x128 .i8) (harg7 : arg7.IsWhole) (arg8 : Memref sig .tc .vmem S2x3584x128 .i32) (harg8 : arg8.IsWhole) (arg9 : Memref sig .tc .vmem S256x256 .bf16) (harg9 : arg9.IsWhole) (arg10 : Memref sig .tc .vmem S256x256 .f32) (harg10 : arg10.IsWhole) (arg11 : Memref sig .tc .vmem S2x448x2x128 .bf16) (harg11 : arg11.IsWhole) (arg12 : Memref sig .tc .vmem S2x448x2x128 .bf16) (harg12 : arg12.IsWhole)

/-- The four stores of a scratch buffer, read back at a pair of rows. -/
theorem scratch_read (v : Memref sig .tc .vmem S2x448x2x128 .bf16) (v0 v1 : FVec Ideal S448x128 .bf16) (b : Nat) (hb : b < 2)
    (row : Nat) (off : Fin 4 → Nat) (ho : off = ![b, row, 0, 0]) (inb : ∀ a, off a + S1x1x2x128.size a ≤ S2x448x2x128.size a)
    (hrow : row < 448) (p : Fin 2) (l : Fin 128) :
    View.readAt (Elt Ideal) v.view (Rect.unit (s := S2x448x2x128) off S1x1x2x128.size inb).toLoadRect
        (v.view.writes (Elt Ideal) v.view.junk (fills v0 v1)) (ix4 (n0 := 1) (n1 := 1) (n2 := 2) (n3 := 128) 0 0 p l)
      = (if b = 0 then v0 else v1) (ix2 (⟨row, hrow⟩ : Fin 448) l) := by
  subst ho
  rw [View.readAt_writes_junk_eq_canon, canon_fills]
  unfold filled
  refine congr (congrArg (fun n : Nat => (if n = 0 then v0 else v1)) ?_) (funext fun a => ?_)
  · show b + 1 * 0 = b
    omega
  · match a with
    | ⟨0, _⟩ => exact Fin.ext (by show row + 1 * 0 = row; omega)
    | ⟨1, _⟩ => exact Fin.ext (by show 0 + 1 * l.val = l.val; omega)

/-- A load of a part of a whole array of two axes. -/
theorem read2 {m n m' n' : Nat} {e : EltTy} (v : Memref sig .tc .vmem ⟨2, ![m, n]⟩ e) (X : BufTy.Contents (Elt Ideal) v.view.ty) (off : Fin 2 → Nat)
    (a b : Nat) (ho : off = ![a, b]) (inb : ∀ d, off d + (⟨2, ![m', n']⟩ : Shape).size d ≤ (⟨2, ![m, n]⟩ : Shape).size d)
    (i : Fin m') (j : Fin n') (hi : a + i.val < m) (hj : b + j.val < n) :
    View.readAt (Elt Ideal) v.view (Rect.unit (s := ⟨2, ![m, n]⟩) off (⟨2, ![m', n']⟩ : Shape).size inb).toLoadRect X (ix2 i j)
      = v.view.read (Elt Ideal) X (ix2 (⟨a + i.val, hi⟩ : Fin m) (⟨b + j.val, hj⟩ : Fin n)) := by
  subst ho
  refine congrArg (v.view.read (Elt Ideal) X) (funext fun d => ?_)
  match d with
  | ⟨0, _⟩ => exact Fin.ext (by show a + 1 * i.val = a + i.val; omega)
  | ⟨1, _⟩ => exact Fin.ext (by show b + 1 * j.val = b + j.val; omega)

/-- A load of a part of the overlay. -/
theorem read3 (v : Memref sig .tc .vmem S2x3584x128 .i32) (X : BufTy.Contents (Elt Ideal) v.view.ty) (off : Fin 3 → Nat)
    (a b : Nat) (ho : off = ![a, b, 0]) (inb : ∀ d, off d + S1x8x128.size d ≤ S2x3584x128.size d)
    (i : Fin 8) (l : Fin 128) (ha : a < 2) (hi : b + i.val < 3584) :
    View.readAt (Elt Ideal) v.view (Rect.unit (s := S2x3584x128) off S1x8x128.size inb).toLoadRect X (ix3 (n0 := 1) (n1 := 8) (n2 := 128) 0 i l)
      = v.view.read (Elt Ideal) X (ix3 (⟨a, ha⟩ : Fin 2) (⟨b + i.val, hi⟩ : Fin 3584) l) := by
  subst ho
  refine congrArg (v.view.read (Elt Ideal) X) (funext fun d => ?_)
  match d with
  | ⟨0, _⟩ => exact Fin.ext (by show a + 1 * 0 = a; omega)
  | ⟨1, _⟩ => exact Fin.ext (by show b + 1 * i.val = b + i.val; omega)
  | ⟨2, _⟩ => exact Fin.ext (by show 0 + 1 * l.val = l.val; omega)

/-- The accumulator before trip `n`. -/
theorem acc_at (X1 : BufTy.Contents (Elt Ideal) arg1.view.ty) (X2 : BufTy.Contents (Elt Ideal) arg2.view.ty)
    (X3 : BufTy.Contents (Elt Ideal) arg3.view.ty) (X8 : BufTy.Contents (Elt Ideal) arg8.view.ty)
    (X11 : BufTy.Contents (Elt Ideal) arg11.view.ty) (X12 : BufTy.Contents (Elt Ideal) arg12.view.ty) (G : BufTy.Contents (Elt Ideal) arg10.view.ty)
    (x : Vec Ideal S256x7168 .bf16) (w0 w1 : Vec Ideal S3584x128 .i8) (s0 s1 z0 z1 : FVec Ideal S448x128 .bf16)
    (o : Vec Ideal S2x3584x128 .i32)
    (h1 : arg1.view.read (Elt Ideal) X1 = x) (h2 : arg2.view.read (Elt Ideal) X2 = w0) (h3 : arg3.view.read (Elt Ideal) X3 = w1)
    (h8 : arg8.view.read (Elt Ideal) X8 = o)
    (h11 : X11 = arg11.view.writes (Elt Ideal) arg11.view.junk (fills s0 s1))
    (h12 : X12 = arg12.view.writes (Elt Ideal) arg12.view.junk (fills z0 z1))
    (hG : ∀ r c : Fin 256, arg10.view.read (Elt Ideal) G (ix2 (n0 := 256) (n1 := 256) r c) = (0 : EReal))
    (r c : Fin 256) (n : Nat) (hn : n ≤ 7) :
    arg10.view.read (Elt Ideal) (arg10.view.writes (Elt Ideal) G
        (pb_k0_t1 (F := Ideal) 𝒱 dev bd i arg1 harg1 arg2 harg2 arg3 harg3 arg4 harg4 arg5 harg5 arg6 harg6 arg7 harg7 arg8 harg8 arg9 harg9 arg10 harg10 arg11 harg11 arg12 harg12 X1 X2 X3 X8 X11 X12 G n)) (ix2 (n0 := 256) (n1 := 256) r c)
      = partialSum x w0 w1 s0 s1 z0 z1 o r c n := by
  subst h11 h12
  induction n with
  | zero =>
    unfold partialSum
    rw [Finset.sum_range_zero]
    exact hG r c
  | succ k ih =>
    have hk : k < k0_t1_loop.trips := by have : k0_t1_loop.trips = 7 := by decide
                                         omega
    have ih := ih (by omega)
    rw [show pb_k0_t1 (F := Ideal) 𝒱 dev bd i arg1 harg1 arg2 harg2 arg3 harg3 arg4 harg4 arg5 harg5 arg6 harg6 arg7 harg7 arg8 harg8 arg9 harg9 arg10 harg10 arg11 harg11 arg12 harg12 X1 X2 X3 X8 _ _ G (k + 1) = _ from
        pb_k0_t1_succ (F := Ideal) 𝒱 dev bd i arg1 harg1 arg2 harg2 arg3 harg3 arg4 harg4 arg5 harg5 arg6 harg6 arg7 harg7 arg8 harg8 arg9 harg9 arg10 harg10 arg11 harg11 arg12 harg12 X1 X2 X3 X8 _ _ G ⟨k, hk⟩]
    unfold tripL_k0_t1
    rw [View.writes_append, trip_pieces, View.read_writes_full, View.readAt_full,
      chunk_at _ _ _ _ r c (fun q => pairWeight w0 w1 s0 s1 z0 z1 o c ⟨1024 * k + q.val, by omega⟩) ?_ ?_, ih]
    · unfold partialSum
      rw [Finset.sum_range_succ, dif_pos (by omega : k < 7)]
      refine congrArg (_ + ·) (Finset.sum_congr rfl fun q _ => congrArg (· * _) ?_)
      refine (read2 arg1 X1 _ 0 (1024 * k) (k0_off6_eq ⟨k, hk⟩) _ r q (by omega) (by omega)).trans ?_
      rw [h1]
      exact congrArg x (funext fun d => by match d with
        | ⟨0, _⟩ => exact Fin.ext (Nat.zero_add _)
        | ⟨1, _⟩ => rfl)
    · intro h q
      unfold pairWeight
      rw [dif_pos h]
      refine column_weight w0 z0 s0 o 0 ⟨k, by omega⟩ _ _ _ _ ?_ ?_ ?_ ?_ q ⟨c.val, h⟩
      · intro n j l
        refine (read2 arg2 X2 _ (512 * k + 32 * n.val) 0 (k0_off1_eq ⟨k, hk⟩ n) _ j l (by omega) (by omega)).trans ?_
        rw [h2]
        exact congrArg w0 (funext fun d => by match d with
          | ⟨0, _⟩ => rfl
          | ⟨1, _⟩ => exact Fin.ext (Nat.zero_add _))
      · intro n t p l
        exact scratch_read arg12 z0 z1 0 (by omega) (64 * k + 4 * n.val + t.val) _ (k0_off2_eq ⟨k, hk⟩ n t) _ (by omega) p l
      · intro n t p l
        exact scratch_read arg11 s0 s1 0 (by omega) (64 * k + 4 * n.val + t.val) _ (k0_off2_eq ⟨k, hk⟩ n t) _ (by omega) p l
      · intro n j l
        refine (read3 arg8 X8 _ 0 (512 * k + 8 * n.val) (k0_off3_eq ⟨k, hk⟩ n) _ j l (by omega) (by omega)).trans ?_
        rw [h8]
        rfl
    · intro h q
      unfold pairWeight
      rw [dif_neg (by omega)]
      refine column_weight w1 z1 s1 o 1 ⟨k, by omega⟩ _ _ _ _ ?_ ?_ ?_ ?_ q ⟨c.val - 128, by omega⟩
      · intro n j l
        refine (read2 arg3 X3 _ (512 * k + 32 * n.val) 0 (k0_off1_eq ⟨k, hk⟩ n) _ j l (by omega) (by omega)).trans ?_
        rw [h3]
        exact congrArg w1 (funext fun d => by match d with
          | ⟨0, _⟩ => rfl
          | ⟨1, _⟩ => exact Fin.ext (Nat.zero_add _))
      · intro n t p l
        exact scratch_read arg12 z0 z1 1 (by omega) (64 * k + 4 * n.val + t.val) _ (k0_off4_eq ⟨k, hk⟩ n t) _ (by omega) p l
      · intro n t p l
        exact scratch_read arg11 s0 s1 1 (by omega) (64 * k + 4 * n.val + t.val) _ (k0_off4_eq ⟨k, hk⟩ n t) _ (by omega) p l
      · intro n j l
        refine (read3 arg8 X8 _ 1 (512 * k + 8 * n.val) (k0_off5_eq ⟨k, hk⟩ n) _ j l (by omega) (by omega)).trans ?_
        rw [h8]
        rfl

end

end Cert.Block

end
-- ==== Proof.BlockValue.lean ====
/- What a grid point of the kernel writes back, element by element. -/
module

public import proofs.«01_k».proof.Proof.Block

@[expose] public section

set_option maxRecDepth 65536

noncomputable section

open scoped BigOperators

namespace Cert.Block

open Idealize.ShloMosaic Idealize.SL.Sem Cert.KernelIdeal Cert.KernelIdeal.Gen Cert.Tile Cert.Word Cert.Trip Cert.Scratch Cert.Weight

theorem zero_off : (![0, 0] : Fin S256x256.rank → Nat) = fun _ => 0 := by
  funext a
  match a with
  | ⟨0, _⟩ => rfl
  | ⟨1, _⟩ => rfl

theorem trips_eq : Scf.trips k0_t1_loop.lb k0_t1_loop.ub k0_t1_loop.st = 7 := by decide

/-- The stores of the scales, as the run lists them. -/
theorem scale_fills (a b : Vec Ideal S448x128 .bf16) :
    ([⟨rect11, k0_pay347 (k0_pay342 b)⟩, ⟨rect10, k0_pay346 (k0_pay341 b)⟩, ⟨rect01, k0_pay338 (k0_pay333 a)⟩,
      ⟨rect00, k0_pay337 (k0_pay332 a) (k0_pay336 a)⟩] : List (View.Piece (Elt Ideal) S2x448x2x128 .bf16)) = fills (F := Ideal) a b := rfl

/-- The stores of the zero points, as the run lists them. -/
theorem zero_fills (a b : Vec Ideal S448x128 .i8) :
    ([⟨rect11, k0_pay345 (k0_pay340 b)⟩, ⟨rect10, k0_pay343 b⟩, ⟨rect01, k0_pay335 a⟩, ⟨rect00, k0_pay334 a⟩] :
      List (View.Piece (Elt Ideal) S2x448x2x128 .bf16)) = fills (F := Ideal) (k0_pay331 a) (k0_pay331 b) := rfl

/-- A load of a whole array. -/
theorem read_whole {e : EltTy} (v : Memref sig .tc .vmem S448x128 e) (hv : v.IsWhole) (X : S448x128.Idx → Elt Ideal e) :
    View.readAt (Elt Ideal) v.view (Rect.unit (s := S448x128) ![0, 0] S448x128.size inb_S448x128_S448x128_0_0).toLoadRect (hv.unread X) = X := by
  rw [View.readAt_full, Memref.IsWhole.read_unread]

theorem block_at (dev : Dev nD) (i : grid0.Coords) (arg1 : Memref sig .tc .vmem S256x7168 .bf16) (harg1 : arg1.IsWhole) (arg2 : Memref sig .tc .vmem S3584x128 .i8) (harg2 : arg2.IsWhole) (arg3 : Memref sig .tc .vmem S3584x128 .i8) (harg3 : arg3.IsWhole) (arg4 : Memref sig .tc .vmem S448x128 .bf16) (harg4 : arg4.IsWhole) (arg5 : Memref sig .tc .vmem S448x128 .bf16) (harg5 : arg5.IsWhole) (arg6 : Memref sig .tc .vmem S448x128 .i8) (harg6 : arg6.IsWhole) (arg7 : Memref sig .tc .vmem S448x128 .i8) (harg7 : arg7.IsWhole) (arg8 : Memref sig .tc .vmem S2x3584x128 .i32) (harg8 : arg8.IsWhole) (arg9 : Memref sig .tc .vmem S256x256 .bf16) (harg9 : arg9.IsWhole) (arg10 : Memref sig .tc .vmem S256x256 .f32) (harg10 : arg10.IsWhole) (arg11 : Memref sig .tc .vmem S2x448x2x128 .bf16) (harg11 : arg11.IsWhole) (arg12 : Memref sig .tc .vmem S2x448x2x128 .bf16) (harg12 : arg12.IsWhole)
    (x : Vec Ideal S256x7168 .bf16) (w0 w1 : Vec Ideal S3584x128 .i8) (s0 s1 : FVec Ideal S448x128 .bf16) (z0 z1 : Vec Ideal S448x128 .i8)
    (o : Vec Ideal S2x3584x128 .i32) (r c : Fin 256) :
    out0_A_8 (F := Ideal) dev i arg1 harg1 arg2 harg2 arg3 harg3 arg4 harg4 arg5 harg5 arg6 harg6 arg7 harg7 arg8 harg8 arg9 harg9 arg10 harg10 arg11 harg11 arg12 harg12 x w0 w1 s0 s1 z0 z1 o (ix2 (n0 := 256) (n1 := 256) r c)
      = partialSum x w0 w1 s0 s1 (k0_pay331 z0) (k0_pay331 z1) o r c 7 := by
  unfold out0_A_8
  rw [View.read_writes_eq_canon _ _ _ (cover0_A_8 dev i arg1 harg1 arg2 harg2 arg3 harg3 arg4 harg4 arg5 harg5 arg6 harg6 arg7 harg7 arg8 harg8 arg9 harg9 arg10 harg10 arg11 harg11 arg12 harg12 x w0 w1 s0 s1 z0 z1 o)]
  unfold kernelRun0_A
  dsimp only
  sl_unfold_words
  rw [View.canon_unit_zero zero_off, trips_eq]
  unfold View.readCov
  rw [View.readAt_full, View.writes_append]
  show arg10.view.read (Elt Ideal) _ _ = _
  refine acc_at Variants.none dev none i arg1 harg1 arg2 harg2 arg3 harg3 arg4 harg4 arg5 harg5 arg6 harg6 arg7 harg7 arg8 harg8 arg9 harg9 arg10 harg10 arg11 harg11 arg12 harg12 (harg1.unread x) (harg2.unread w0) (harg3.unread w1) (harg8.unread o) _ _ _ x w0 w1 s0 s1
    (k0_pay331 z0) (k0_pay331 z1) o (harg1.read_unread x) (harg2.read_unread w0) (harg3.read_unread w1) (harg8.read_unread o) ?_ ?_ ?_ r c 7 (le_refl 7)
  · refine congrArg (arg11.view.writes (Elt Ideal) arg11.view.junk) ((scale_fills _ _).trans ?_)
    rw [read_whole, read_whole]
  · refine congrArg (arg12.view.writes (Elt Ideal) arg12.view.junk) ((zero_fills _ _).trans ?_)
    rw [read_whole, read_whole]
  intro r' c'
  rw [View.read_writes_full]
  exact Idealize.ShloMosaic.Ideal.ofBits_zero_f32

end Cert.Block

end
-- ==== Proof.Array.lean ====
/- The kernel's result, element by element, from its arguments. -/
module

public import proofs.«01_k».proof.Proof.BlockValue
public import proofs.«01_k».proof.Proof.Gen.KernelIdeal.Value
public import Idealize.ShloMosaic.Lib.Pipeline.ValueKit

@[expose] public section

set_option maxRecDepth 65536

noncomputable section

open scoped BigOperators

namespace Cert.Array

open Idealize.ShloMosaic Idealize.ShloMosaic.TcCoe Idealize.SL.Sem Cert.KernelIdeal Cert.KernelIdeal.Gen Cert.Tile Cert.Word Cert.Weight Cert.Block

/-- Row `R`, column `n` of the weight: the overlay's element where its bits are not all ones, else the code of the
    packed byte less the zero point, times the scale. -/
def weightAt (W : Vec Ideal S3584x4608 .i8) (S : FVec Ideal S448x4608 .bf16) (Z : Vec Ideal S448x4608 .i8)
    (O : Vec Ideal S36x3584x128 .i32) (n : Fin 4608) (R : Fin 7168) : EReal :=
  elt (code (W (ix2 (⟨R.val / 2, by omega⟩ : Fin 3584) n)) (R.val % 2))
    ((((Z (ix2 (⟨R.val / 16, by omega⟩ : Fin 448) n)).toInt : ℝ) : EReal) - ((8 : ℝ) : EReal))
    (S (ix2 (⟨R.val / 16, by omega⟩ : Fin 448) n))
    ((O (ix3 (⟨n.val / 128, by omega⟩ : Fin 36) (⟨R.val / 2, by omega⟩ : Fin 3584) (⟨n.val % 128, by omega⟩ : Fin 128))).extractLsb' (16 * (R.val % 2)) 16)

/-- The product, chunk by chunk. -/
def product (X : Vec Ideal S256x7168 .bf16) (W : Vec Ideal S3584x4608 .i8) (S : FVec Ideal S448x4608 .bf16)
    (Z : Vec Ideal S448x4608 .i8) (O : Vec Ideal S36x3584x128 .i32) : S256x4608.Idx → EReal := fun j =>
  ∑ k ∈ Finset.range 7, if h : k < 7 then
    ∑ q : Fin 1024, X (ix2 (j 0) (⟨1024 * k + q.val, by omega⟩ : Fin 7168)) * weightAt W S Z O (j 1) ⟨1024 * k + q.val, by omega⟩ else 0

variable (m : (ℓ : Loc nD τ sig) → Buf (Elt Ideal) ℓ)

theorem idx0 : ∀ t : Fin cfg0.N, win0_0.index t = ![0, 0] := (by decide +kernel : ∀ t : Fin grid0.N, win0_0.index t = ![0, 0])
theorem idx1 : ∀ t : Fin cfg0.N, win0_1.index t = ![0, 2 * t.val] := (by decide +kernel : ∀ t : Fin grid0.N, win0_1.index t = ![0, 2 * t.val])
theorem idx2 : ∀ t : Fin cfg0.N, win0_2.index t = ![0, 2 * t.val + 1] := (by decide +kernel : ∀ t : Fin grid0.N, win0_2.index t = ![0, 2 * t.val + 1])
theorem idx3 : ∀ t : Fin cfg0.N, win0_3.index t = ![0, 2 * t.val] := (by decide +kernel : ∀ t : Fin grid0.N, win0_3.index t = ![0, 2 * t.val])
theorem idx4 : ∀ t : Fin cfg0.N, win0_4.index t = ![0, 2 * t.val + 1] := (by decide +kernel : ∀ t : Fin grid0.N, win0_4.index t = ![0, 2 * t.val + 1])
theorem idx5 : ∀ t : Fin cfg0.N, win0_5.index t = ![0, 2 * t.val] := (by decide +kernel : ∀ t : Fin grid0.N, win0_5.index t = ![0, 2 * t.val])
theorem idx6 : ∀ t : Fin cfg0.N, win0_6.index t = ![0, 2 * t.val + 1] := (by decide +kernel : ∀ t : Fin grid0.N, win0_6.index t = ![0, 2 * t.val + 1])
theorem idx7 : ∀ t : Fin cfg0.N, win0_7.index t = ![t.val, 0, 0] := (by decide +kernel : ∀ t : Fin grid0.N, win0_7.index t = ![t.val, 0, 0])
theorem idx8 : ∀ t : Fin cfg0.N, win0_8.index t = ![0, t.val] := (by decide +kernel : ∀ t : Fin grid0.N, win0_8.index t = ![0, t.val])

theorem points (t : Fin cfg0.N) : t.val < 18 := t.isLt

theorem read_x (c : Dev nD) (t : Fin cfg0.N) (r : Fin 256) (q : Fin 7168) :
    (iblk m c 0 t : S256x7168.Idx → EReal) (ix2 (n0 := 256) (n1 := 7168) r q) = m ((c : Thread nD τ).loc main_arg0) (ix2 (n0 := 256) (n1 := 7168) r q) := by
  have h := points t
  blk_ext! [iblk, V, idx0 t]

theorem read_w0 (c : Dev nD) (t : Fin cfg0.N) (i : Fin 3584) (l : Fin 128) :
    (iblk m c 1 t : S3584x128.Idx → BitVec 8) (ix2 (n0 := 3584) (n1 := 128) i l)
      = m ((c : Thread nD τ).loc main_arg1) (ix2 (n0 := 3584) (n1 := 4608) i ⟨256 * t.val + l.val, by have h := points t; omega⟩) := by
  have h := points t
  blk_ext! [iblk, V, idx1 t]

theorem read_w1 (c : Dev nD) (t : Fin cfg0.N) (i : Fin 3584) (l : Fin 128) :
    (iblk m c 2 t : S3584x128.Idx → BitVec 8) (ix2 (n0 := 3584) (n1 := 128) i l)
      = m ((c : Thread nD τ).loc main_arg1) (ix2 (n0 := 3584) (n1 := 4608) i ⟨256 * t.val + 128 + l.val, by have h := points t; omega⟩) := by
  have h := points t
  blk_ext! [iblk, V, idx2 t]

theorem read_s0 (c : Dev nD) (t : Fin cfg0.N) (i : Fin 448) (l : Fin 128) :
    (iblk m c 3 t : S448x128.Idx → EReal) (ix2 (n0 := 448) (n1 := 128) i l)
      = m ((c : Thread nD τ).loc main_arg2) (ix2 (n0 := 448) (n1 := 4608) i ⟨256 * t.val + l.val, by have h := points t; omega⟩) := by
  have h := points t
  blk_ext! [iblk, V, idx3 t]

theorem read_s1 (c : Dev nD) (t : Fin cfg0.N) (i : Fin 448) (l : Fin 128) :
    (iblk m c 4 t : S448x128.Idx → EReal) (ix2 (n0 := 448) (n1 := 128) i l)
      = m ((c : Thread nD τ).loc main_arg2) (ix2 (n0 := 448) (n1 := 4608) i ⟨256 * t.val + 128 + l.val, by have h := points t; omega⟩) := by
  have h := points t
  blk_ext! [iblk, V, idx4 t]

theorem read_z0 (c : Dev nD) (t : Fin cfg0.N) (i : Fin 448) (l : Fin 128) :
    (iblk m c 5 t : S448x128.Idx → BitVec 8) (ix2 (n0 := 448) (n1 := 128) i l)
      = m ((c : Thread nD τ).loc main_arg3) (ix2 (n0 := 448) (n1 := 4608) i ⟨256 * t.val + l.val, by have h := points t; omega⟩) := by
  have h := points t
  blk_ext! [iblk, V, idx5 t]

theorem read_z1 (c : Dev nD) (t : Fin cfg0.N) (i : Fin 448) (l : Fin 128) :
    (iblk m c 6 t : S448x128.Idx → BitVec 8) (ix2 (n0 := 448) (n1 := 128) i l)
      = m ((c : Thread nD τ).loc main_arg3) (ix2 (n0 := 448) (n1 := 4608) i ⟨256 * t.val + 128 + l.val, by have h := points t; omega⟩) := by
  have h := points t
  blk_ext! [iblk, V, idx6 t]

theorem read_o (c : Dev nD) (t : Fin cfg0.N) (b : Fin 2) (i : Fin 3584) (l : Fin 128) :
    (iblk m c 7 t : S2x3584x128.Idx → BitVec 32) (ix3 (n0 := 2) (n1 := 3584) (n2 := 128) b i l)
      = m ((c : Thread nD τ).loc main_arg4) (ix3 (n0 := 36) (n1 := 3584) (n2 := 128) ⟨2 * t.val + b.val, by have h := points t; omega⟩ i l) := by
  have h := points t
  blk_ext! [iblk, V, idx7 t]

/-- A grid point's two lane blocks are its 256 columns of the weight. -/
theorem pairWeight_eq (c : Dev nD) (t : Fin cfg0.N) (l : Fin 256) (R : Fin 7168) :
    pairWeight (iblk m c 1 t) (iblk m c 2 t) (iblk m c 3 t) (iblk m c 4 t) (k0_pay331 (iblk m c 5 t)) (k0_pay331 (iblk m c 6 t)) (iblk m c 7 t) l R
      = weightAt (m ((c : Thread nD τ).loc main_arg1)) (m ((c : Thread nD τ).loc main_arg2)) (m ((c : Thread nD τ).loc main_arg3))
          (m ((c : Thread nD τ).loc main_arg4)) ⟨256 * t.val + l.val, by have h := points t; omega⟩ R := by
  have h := points t
  unfold pairWeight weightAt
  by_cases hl : l.val < 128
  · rw [dif_pos hl]
    unfold weight
    rw [Cert.Scratch.zeros_at, read_w0 m c t, read_s0 m c t, read_z0 m c t, read_o m c t]
    have e1 : (256 * t.val + l.val) / 128 = 2 * t.val + 0 := by omega
    have e2 : (256 * t.val + l.val) % 128 = l.val := by omega
    simp only [e1, e2]
    rfl
  · rw [dif_neg hl]
    unfold weight
    rw [Cert.Scratch.zeros_at, read_w1 m c t, read_s1 m c t, read_z1 m c t, read_o m c t]
    have e1 : (256 * t.val + l.val) / 128 = 2 * t.val + 1 := by omega
    have e2 : (256 * t.val + l.val) % 128 = l.val - 128 := by omega
    have e3 : 256 * t.val + 128 + (l.val - 128) = 256 * t.val + l.val := by omega
    simp only [e1, e2, e3]
    rfl

/-- The result array after the run. -/
theorem final (c : Dev nD) :
    (Gen.dats m 0 c).arrAt 8 cfg0.N
      = product (m ((c : Thread nD τ).loc main_arg0)) (m ((c : Thread nD τ).loc main_arg1)) (m ((c : Thread nD τ).loc main_arg2))
          (m ((c : Thread nD τ).loc main_arg3)) (m ((c : Thread nD τ).loc main_arg4)) := by
  refine (Gen.dats m 0 c).arrAt_eq_of_covers 8 _ (by decide +kernel) fun t hf y => ?_
  have h := points t
  blk_simp
  rw [after0_8]
  unfold outsAt0
  obtain ⟨r, l, rfl⟩ : ∃ (r l : Fin 256), y = ix2 (n0 := 256) (n1 := 256) r l := ⟨y 0, y 1, by
    funext a
    match a with
    | ⟨0, _⟩ => rfl
    | ⟨1, _⟩ => rfl⟩
  rw [block_at]
  have key : ∀ j : S256x4608.Idx, j = ix2 (n0 := 256) (n1 := 4608) r ⟨256 * t.val + l.val, by omega⟩ →
      partialSum (iblk m c 0 t) (iblk m c 1 t) (iblk m c 2 t) (iblk m c 3 t) (iblk m c 4 t) (k0_pay331 (iblk m c 5 t))
          (k0_pay331 (iblk m c 6 t)) (iblk m c 7 t) r l 7
        = product (m ((c : Thread nD τ).loc main_arg0)) (m ((c : Thread nD τ).loc main_arg1)) (m ((c : Thread nD τ).loc main_arg2))
            (m ((c : Thread nD τ).loc main_arg3)) (m ((c : Thread nD τ).loc main_arg4)) j := by
    intro j hj
    rw [hj]
    unfold partialSum product
    refine Finset.sum_congr rfl fun k _ => ?_
    by_cases hk : k < 7
    · rw [dif_pos hk, dif_pos hk]
      refine Finset.sum_congr rfl fun q _ => ?_
      rw [pairWeight_eq, read_x m c t]
      rfl
    · rw [dif_neg hk, dif_neg hk]
  refine key _ ?_
  blk_ext [idx8 t]

end Cert.Array

end
-- ==== Proof.Sums.lean ====
/- Two ways to cut a sum: into chunks, and into the even and the odd terms. -/
module

public import Mathlib.Algebra.BigOperators.Group.Finset.Basic
public import Mathlib.Algebra.BigOperators.Fin

@[expose] public section

open scoped BigOperators

namespace Cert.Sums

variable {R : Type*} [AddCommMonoid R]

/-- A sum chunk by chunk. -/
theorem chunks (f : ℕ → R) (w : ℕ) (c : ℕ) :
    ∑ k ∈ Finset.range c, ∑ q ∈ Finset.range w, f (w * k + q) = ∑ n ∈ Finset.range (w * c), f n := by
  induction c with
  | zero => simp
  | succ c ih => rw [Finset.sum_range_succ, ih, Nat.mul_succ, Finset.sum_range_add]

/-- A sum as its even terms and its odd ones. -/
theorem parity (f : ℕ → R) (c : ℕ) :
    ∑ n ∈ Finset.range (2 * c), f n = (∑ i ∈ Finset.range c, f (2 * i)) + ∑ i ∈ Finset.range c, f (2 * i + 1) := by
  induction c with
  | zero => simp
  | succ c ih =>
    rw [Nat.mul_succ, Finset.sum_range_succ, Finset.sum_range_succ, ih, Finset.sum_range_succ, Finset.sum_range_succ]
    rw [add_assoc (_ + _), add_add_add_comm]

/-- Seven chunks of 1024 terms are the even terms and the odd ones of 7168. -/
theorem chunks_parity (f : Fin 7168 → R) :
    (∑ k ∈ Finset.range 7, if h : k < 7 then ∑ q : Fin 1024, f ⟨1024 * k + q.val, by omega⟩ else 0)
      = (∑ i : Fin 3584, f ⟨2 * i.val, by omega⟩) + ∑ i : Fin 3584, f ⟨2 * i.val + 1, by omega⟩ := by
  obtain ⟨g, hg⟩ : ∃ g : ℕ → R, ∀ n (h : n < 7168), f ⟨n, h⟩ = g n :=
    ⟨fun n => if h : n < 7168 then f ⟨n, h⟩ else 0, fun n h => by simp only [dif_pos h]⟩
  have hl : (∑ k ∈ Finset.range 7, if h : k < 7 then ∑ q : Fin 1024, f ⟨1024 * k + q.val, by omega⟩ else 0)
      = ∑ k ∈ Finset.range 7, ∑ q ∈ Finset.range 1024, g (1024 * k + q) := by
    refine Finset.sum_congr rfl fun k hk => ?_
    rw [dif_pos (Finset.mem_range.mp hk), Finset.sum_range]
    exact Finset.sum_congr rfl fun q _ => hg _ _
  rw [hl, chunks, show 1024 * 7 = 2 * 3584 from rfl, parity, Finset.sum_range, Finset.sum_range]
  congr 1
  · exact Finset.sum_congr rfl fun q _ => (hg _ _).symm
  · exact Finset.sum_congr rfl fun q _ => (hg _ _).symm

end Cert.Sums
-- ==== Proof.Reference.lean ====
/- The reference's result, element by element, with zero points below 128: the even columns of `x` times the low halves'
   rows of the weight, and the odd columns times the high halves' rows. -/
module

public import proofs.«01_k».proof.Proof.Array
public import proofs.«01_k».proof.Proof.Sums
public import proofs.«01_k».proof.Proof.Gen.ReferenceIdeal.Read

@[expose] public section

set_option maxRecDepth 65536

noncomputable section

open scoped BigOperators

namespace Cert.Reference

open Idealize.ShloMosaic Idealize.SL.Sem Cert.ReferenceIdeal Cert.ReferenceIdeal.Gen Cert.ReferenceIdeal.Read Cert.Tile Cert.Word Cert.Array

/-- The dequantised element: what the reference computes with the whole zero point is what the kernel computes with the
    zero point and the code each less eight. -/
theorem dequant (c : Nat) (z : BitVec 8) (s : EReal) (hz : (z.setWidth 32).slt 128#32 = true) (bits : BitVec 16) :
    Scalar.select (IntOp.cmpi .ne bits 65535#16) (FloatOps.ofBits (F := Ideal) .bf16 bits)
        (((((c : Int) : ℝ) : EReal) - ((((z.setWidth 32).toInt : ℝ)) : EReal)) * s)
      = elt c (((z.toInt : ℝ) : EReal) - ((8 : ℝ) : EReal)) s bits := by
  unfold elt
  rw [zero_point z hz, sub_eight]
  show (if IntOp.cmpi .ne bits 65535#16 = 1#1 then _ else _) = _
  by_cases h : bits = 65535#16
  · rw [if_pos h, if_neg (by rw [h]; decide)]
  · rw [if_neg h, if_pos]
    show BitVec.ofBool (bits != 65535#16) = 1#1
    rw [bne_iff_ne.mpr h]; rfl

variable (W : (⟨S3584x4608, .i8⟩ : BufTy).Contents (Elt Ideal)) (S : (⟨S448x4608, .bf16⟩ : BufTy).Contents (Elt Ideal))
  (Z : (⟨S448x4608, .i8⟩ : BufTy).Contents (Elt Ideal)) (O : (⟨S36x3584x128, .i32⟩ : BufTy).Contents (Elt Ideal))
  (hz : ∀ i : S448x4608.Idx, ((Z i).setWidth 32).slt 128#32 = true)

/-- The overlay's word, laid out as the weight is. -/
theorem pairs_at (i : Fin 3584) (n : Fin 4608) :
    val_main_v28 (F := Ideal) O (ix2 (n0 := 3584) (n1 := 4608) i n)
      = O (ix3 (⟨n.val / 128, by omega⟩ : Fin 36) i (⟨n.val % 128, by omega⟩ : Fin 128)) := by
  rw [val_main_v28_apply, val_main_v27_apply]
  refine congrArg O (funext fun a => ?_)
  match a with
  | ⟨0, _⟩ => exact Fin.ext (by show (i.val * 4608 + n.val) / 128 % 36 = n.val / 128; omega)
  | ⟨1, _⟩ => exact Fin.ext (by show (i.val * 4608 + n.val) / 4608 = i.val; omega)
  | ⟨2, _⟩ => exact Fin.ext (by show (i.val * 4608 + n.val) % 128 = n.val % 128; omega)

/-- The group of eight packed rows that row `i` lies in. -/
abbrev grp (i : Fin 3584) : Fin 448 := ⟨i.val / 8, by omega⟩

/-- One element of the weight by its packed row and its half. -/
theorem weight_at (i : Fin 3584) (n : Fin 4608) (p : Nat) (hp : p < 2) :
    weightAt W S Z O n ⟨2 * i.val + p, by omega⟩
      = elt (code (W (ix2 i n)) p) ((((Z (ix2 (grp i) n)).toInt : ℝ) : EReal) - ((8 : ℝ) : EReal)) (S (ix2 (grp i) n))
          ((O (ix3 (⟨n.val / 128, by omega⟩ : Fin 36) i (⟨n.val % 128, by omega⟩ : Fin 128))).extractLsb' (16 * p) 16) := by
  have e1 : (⟨(2 * i.val + p) / 2, by omega⟩ : Fin 3584) = i := Fin.ext (by show (2 * i.val + p) / 2 = i.val; omega)
  have e2 : (2 * i.val + p) % 2 = p := by omega
  have e3 : (⟨(2 * i.val + p) / 16, by omega⟩ : Fin 448) = grp i := Fin.ext (by show (2 * i.val + p) / 16 = i.val / 8; omega)
  unfold weightAt
  simp only [e1, e2, e3]

/-- The low halves' byte. -/
theorem byte_low (i : Fin 3584) (n : Fin 4608) :
    idx_main_v4 (idx_main_v13 (ix2 (n0 := 3584) (n1 := 4608) i n)) = ix2 i n := by
  funext a
  match a with
  | ⟨0, _⟩ => exact Fin.ext (by show (((i.val * 4608 + n.val) / 36864 * 8 + (i.val * 4608 + n.val) / 4608 % 8) * 4608 + (i.val * 4608 + n.val) % 4608) / 4608 = i.val; omega)
  | ⟨1, _⟩ => exact Fin.ext (by show (((i.val * 4608 + n.val) / 36864 * 8 + (i.val * 4608 + n.val) / 4608 % 8) * 4608 + (i.val * 4608 + n.val) % 4608) % 4608 = n.val; omega)

/-- The high halves' byte. -/
theorem byte_high (i : Fin 3584) (n : Fin 4608) :
    idx_main_v17 (idx_main_v26 (ix2 (n0 := 3584) (n1 := 4608) i n)) = ix2 i n := byte_low i n

/-- The low halves' zero point. -/
theorem zero_low (i : Fin 3584) (n : Fin 4608) :
    idx_main_v7 (idx_main_v9 (idx_main_v13 (ix2 (n0 := 3584) (n1 := 4608) i n))) = ix2 (grp i) n := by
  funext a
  match a with
  | ⟨0, _⟩ => exact Fin.ext (by show (i.val * 4608 + n.val) / 36864 = i.val / 8; omega)
  | ⟨1, _⟩ => exact Fin.ext (by show (i.val * 4608 + n.val) % 4608 = n.val; omega)

/-- The low halves' scale. -/
theorem scale_low (i : Fin 3584) (n : Fin 4608) :
    idx_main_v8 (idx_main_v11 (idx_main_v13 (ix2 (n0 := 3584) (n1 := 4608) i n))) = ix2 (grp i) n := zero_low i n

/-- The high halves' zero point. -/
theorem zero_high (i : Fin 3584) (n : Fin 4608) :
    idx_main_v20 (idx_main_v22 (idx_main_v26 (ix2 (n0 := 3584) (n1 := 4608) i n))) = ix2 (grp i) n := zero_low i n

/-- The high halves' scale. -/
theorem scale_high (i : Fin 3584) (n : Fin 4608) :
    idx_main_v21 (idx_main_v24 (idx_main_v26 (ix2 (n0 := 3584) (n1 := 4608) i n))) = ix2 (grp i) n := zero_low i n

/-- A pair's low half. -/
theorem low_half (w : BitVec 32) : w.setWidth 16 = w.extractLsb' (16 * 0) 16 := by
  apply BitVec.eq_of_getLsbD_eq
  intro i hi
  simp [hi]

/-- A pair's high half. -/
theorem high_half (w : BitVec 32) : (IntOp.shrsi .host w 16#32).setWidth 16 = w.extractLsb' (16 * 1) 16 := by
  show (w.sshiftRight 16).setWidth 16 = _
  apply BitVec.eq_of_getLsbD_eq
  intro i hi
  have : 16 + i < 32 := by omega
  simp [hi, BitVec.getLsbD_sshiftRight, this]
  omega

include hz in
/-- The low halves' weights. -/
theorem low_at (i : Fin 3584) (n : Fin 4608) :
    val_main_v33 (F := Ideal) W S Z O (ix2 (n0 := 3584) (n1 := 4608) i n) = weightAt W S Z O n ⟨2 * i.val, by omega⟩ := by
  rw [val_main_v33_apply, val_main_v31_apply, val_main_v32_apply, val_main_v30_apply, val_main_c_1_apply, val_main_v29_apply,
    pairs_at, val_main_v13_apply, val_main_v12_apply, val_main_v10_apply, val_main_v11_apply, val_main_v8_apply, val_main_v9_apply,
    val_main_v7_apply, val_main_v6_apply, val_main_v5_apply, val_main_v4_apply, val_main_v3_apply, val_main_v2_apply,
    val_main_v1_apply, val_main_c_apply, val_main_v0_apply, byte_low, zero_low, scale_low, low_half]
  refine Eq.trans ?_ (weight_at W S Z O i n 0 (by omega)).symm
  rw [← dequant _ _ _ (hz _)]
  have hc := low_code (W (ix2 i n))
  show Scalar.select _ _ (((((((W (ix2 i n)).setWidth 32) &&& 15#32).toInt : ℝ) : EReal) - _) * _) = _
  rw [hc]
  rfl

include hz in
/-- The high halves' weights. -/
theorem high_at (i : Fin 3584) (n : Fin 4608) :
    val_main_v40 (F := Ideal) W S Z O (ix2 (n0 := 3584) (n1 := 4608) i n) = weightAt W S Z O n ⟨2 * i.val + 1, by omega⟩ := by
  rw [val_main_v40_apply, val_main_v38_apply, val_main_v39_apply, val_main_v37_apply, val_main_c_3_apply, val_main_v36_apply,
    val_main_v35_apply, val_main_v34_apply, val_main_c_2_apply,
    pairs_at, val_main_v26_apply, val_main_v25_apply, val_main_v23_apply, val_main_v24_apply, val_main_v21_apply, val_main_v22_apply,
    val_main_v20_apply, val_main_v19_apply, val_main_v18_apply, val_main_v17_apply, val_main_v16_apply, val_main_v15_apply,
    val_main_v14_apply, val_main_c_0_apply, val_main_v0_apply, byte_high, zero_high, scale_high, high_half]
  refine Eq.trans ?_ (weight_at W S Z O i n 1 (by omega)).symm
  rw [← dequant _ _ _ (hz _)]
  have hc := high_code (W (ix2 i n))
  show Scalar.select _ _ (((((((W (ix2 i n)).setWidth 32).sshiftRight 4).toInt : ℝ) : EReal) - _) * _) = _
  rw [hc]
  rfl

variable (X : (⟨S256x7168, .bf16⟩ : BufTy).Contents (Elt Ideal))

/-- The even columns of `x`. -/
theorem even_at (r : Fin 256) (k : Fin 3584) :
    val_main_v41 (F := Ideal) X (ix2 (n0 := 256) (n1 := 3584) r k) = X (ix2 r (⟨2 * k.val, by omega⟩ : Fin 7168)) := by
  refine congrArg X (funext fun a => ?_)
  match a with
  | ⟨0, _⟩ => exact Fin.ext (by show 0 + 1 * r.val = r.val; omega)
  | ⟨1, _⟩ => exact Fin.ext (by show 0 + 2 * k.val = 2 * k.val; omega)

/-- The odd columns of `x`. -/
theorem odd_at (r : Fin 256) (k : Fin 3584) :
    val_main_v43 (F := Ideal) X (ix2 (n0 := 256) (n1 := 3584) r k) = X (ix2 r (⟨2 * k.val + 1, by omega⟩ : Fin 7168)) := by
  refine congrArg X (funext fun a => ?_)
  match a with
  | ⟨0, _⟩ => exact Fin.ext (by show 0 + 1 * r.val = r.val; omega)
  | ⟨1, _⟩ => exact Fin.ext (by show 1 + 2 * k.val = 2 * k.val + 1; omega)

include hz in
/-- The reference's result is the kernel's product. -/
theorem result : val_main_v46 (F := Ideal) X W S Z O = product X W S Z O := by
  funext j
  rw [val_main_v46_apply, val_main_v45_apply, val_main_v42_apply, val_main_v44_apply]
  refine Eq.trans ?_ (Cert.Sums.chunks_parity (fun R => X (ix2 (j 0 : Fin 256) R) * weightAt W S Z O (j 1) R)).symm
  refine congrArg₂ (· + ·) (Finset.sum_congr rfl fun k _ => ?_) (Finset.sum_congr rfl fun k _ => ?_)
  · have e1 : lidx_main_v42 j k = ix2 (n0 := 256) (n1 := 3584) (j 0) k := by
      funext a; match a with | ⟨0, _⟩ => rfl | ⟨1, _⟩ => rfl
    have e2 : ridx_main_v42 j k = ix2 (n0 := 3584) (n1 := 4608) k (j 1) := by
      funext a; match a with | ⟨0, _⟩ => rfl | ⟨1, _⟩ => rfl
    exact congrArg₂ (· * ·) ((congrArg _ e1).trans (even_at X (j 0) k)) ((congrArg _ e2).trans (low_at W S Z O hz k (j 1)))
  · have e1 : lidx_main_v44 j k = ix2 (n0 := 256) (n1 := 3584) (j 0) k := by
      funext a; match a with | ⟨0, _⟩ => rfl | ⟨1, _⟩ => rfl
    have e2 : ridx_main_v44 j k = ix2 (n0 := 3584) (n1 := 4608) k (j 1) := by
      funext a; match a with | ⟨0, _⟩ => rfl | ⟨1, _⟩ => rfl
    exact congrArg₂ (· * ·) ((congrArg _ e1).trans (odd_at X (j 0) k)) ((congrArg _ e2).trans (high_at W S Z O hz k (j 1)))

end Cert.Reference

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Lib.Bf16PairInverse

@[expose] public section

open Idealize.ShloMosaic Idealize.SL.Sem

namespace Cert.Proof

/-- The kernel as printed: every execution ends, and nothing is left running. -/
theorem frame_k : Cert.quiescent_Kernel := fun m ρ _ => Cert.Kernel.Gen.frame m ρ

/-- The idealised kernel: every execution ends, and nothing is left running. -/
theorem frame_ki : Cert.quiescent_KernelIdeal := fun m ρ _ => Cert.KernelIdeal.Gen.frame m ρ

/-- The idealised reference: every execution ends, and nothing is left running. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- What the rules put in the idealised kernel's place is the same, shape by shape. -/
theorem preserves : Cert.preserves_Kernel_KernelIdeal :=
  open Cert.KernelIdeal IdealRules.bf16_pair in
  ⟨bufferStatement S2x448x2x128 S2x448x1x128, statement S448x128 S224x128, statement S1x224x2x128 S1x224x1x128,
    statement S1x1x2x128 S1x1x1x128, statement S2x128 S1x128⟩

/-- The precondition's side conditions. -/
instance preFacts : Cert.Pre_zero_points_below_128.Facts where
  natLt_8_32 := by decide
  bcast_S_S448x4608 := by decide

/-- The idealised kernel ends, also where the precondition is asked. -/
theorem frame_ki_pre : Cert.quiescent_KernelIdeal_pre_zero_points_below_128 := fun m ρ _ => frame_ki m ρ trivial

/-- The idealised reference ends, also where the precondition is asked. -/
theorem frame_ri_pre : Cert.quiescent_ReferenceIdeal_pre_zero_points_below_128 := fun m ρ _ => frame_ri m ρ trivial

/-- The precondition says that every zero point, widened with zeros, is below 128. -/
theorem zero_points (m : (ℓ : Loc Cert.KernelIdeal.nD Cert.KernelIdeal.τ Cert.KernelIdeal.sig) → Buf (Elt Ideal) ℓ)
    (h : Cert.Pre_KernelIdeal_zero_points_below_128 m) (c : Dev Cert.KernelIdeal.nD) (i : Cert.KernelIdeal.S448x4608.Idx) :
    ((m ((c.tc : Thread Cert.KernelIdeal.nD Cert.KernelIdeal.τ).loc Cert.KernelIdeal.main_arg3) i : BitVec 8).setWidth 32).slt 128#32 = true := by
  have hb : ∀ b : Bool, BitVec.ofBool b = 1#1 → b = true := by decide
  exact hb _ (congrFun (h c) i)

/-- The idealised kernel's result is the idealised reference's. -/
theorem algebraic : Cert.algebraic_KernelIdeal_ReferenceIdeal_pre_zero_points_below_128 := fun m g m' g' hp ha =>
  ⟨fun c => Cert.Array.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono (fun _ h c => ⟨(h c).1.trans (Cert.Array.final m c), (h c).2⟩)
      (Cert.KernelIdeal.Value.run_blocks m g),
    (θ_run Cert.ReferenceIdeal.defs _ _).mono (fun _ h c => ⟨(h c).1.trans (by
        rw [(ha c).1, (ha c).2.1, (ha c).2.2.1, (ha c).2.2.2.1, (ha c).2.2.2.2]
        exact (Cert.ReferenceIdeal.Read.val_main_v46_eq _ _ _ _ _).trans
          (Cert.Reference.result _ _ _ _ (fun i => zero_points m hp c i) _)), (h c).2⟩)
      (Cert.ReferenceIdeal.Value.run (F := Ideal) m' g')⟩

theorem claim : Cert.Claim :=
  ⟨inferInstance, inferInstance, inferInstance, preFacts, frame_k, frame_ki, frame_ki_pre, frame_ri, frame_ri_pre, preserves,
    algebraic⟩

end Cert.Proof

end
